-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1600000x16 : Shape := ⟨2, ![1600000, 16]⟩
abbrev S128x16 : Shape := ⟨2, ![128, 16]⟩
abbrev S128 : Shape := ⟨1, ![128]⟩
abbrev S16x128 : Shape := ⟨2, ![16, 128]⟩
abbrev S1x128 : Shape := ⟨2, ![1, 128]⟩
abbrev S1600000x128 : Shape := ⟨2, ![1600000, 128]⟩
abbrev S4x8000x16 : Shape := ⟨3, ![4, 8000, 16]⟩
abbrev S4x8000x128 : Shape := ⟨3, ![4, 8000, 128]⟩
abbrev S4 : Shape := ⟨1, ![4]⟩
abbrev S1 : Shape := ⟨1, ![1]⟩
abbrev S_ : Shape := ⟨0, ![]⟩
abbrev S1x8000x16 : Shape := ⟨3, ![1, 8000, 16]⟩
abbrev S8000x16 : Shape := ⟨2, ![8000, 16]⟩
abbrev S8000x128 : Shape := ⟨2, ![8000, 128]⟩
abbrev S1x8000x128 : Shape := ⟨3, ![1, 8000, 128]⟩

abbrev nBuf : Space → Nat
  | .hbm => 7
  | .vmem => 4
  | .smem => 0
  | _ => 0

abbrev bufTy : (tb : Table) → Fin (tcTables nBuf tb) → BufTy
  | .hbm, ⟨0, _⟩ => ⟨S1600000x16, .f32⟩
  | .hbm, ⟨1, _⟩ => ⟨S128x16, .f32⟩
  | .hbm, ⟨2, _⟩ => ⟨S128, .f32⟩
  | .hbm, ⟨3, _⟩ => ⟨S16x128, .f32⟩
  | .hbm, ⟨4, _⟩ => ⟨S16x128, .bf16⟩
  | .hbm, ⟨5, _⟩ => ⟨S1x128, .f32⟩
  | .hbm, ⟨6, _⟩ => ⟨S1600000x128, .f32⟩
  | .local _ .vmem, ⟨0, _⟩ => ⟨S16x128, .bf16⟩
  | .local _ .vmem, ⟨1, _⟩ => ⟨S1x128, .f32⟩
  | .local _ .vmem, ⟨2, _⟩ => ⟨S4x8000x16, .f32⟩
  | .local _ .vmem, ⟨3, _⟩ => ⟨S4x8000x128, .f32⟩
  | _, _ => ⟨S1600000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_17 : BitVec 32 := 0#32
  let c50_i32 : BitVec 32 := 50#32
  let v20 : BitVec 32 := Scalar.addi c0_i32_17 c50_i32
  let c1_i32_18 : BitVec 32 := 1#32
  ⟨c0_i32_17, v20, c1_i32_18⟩
def k0_off1 (k0_t1 : Fin k0_t1_loop.trips) (c0_i32_40 : BitVec 32) : Fin 2 → Nat :=
  let c0_i32_17 : BitVec 32 := 0#32
  let c1_i32_18 : BitVec 32 := 1#32
  let arg8 : BitVec 32 := Scf.iv c0_i32_17 c1_i32_18 k0_t1
  let c4_i32 : BitVec 32 := 4#32
  let v41 : BitVec 32 := Scalar.muli arg8 c4_i32
  let v42 : BitVec 32 := Scalar.addi v41 c0_i32_40
  let c8000_i32_41 : BitVec 32 := 8000#32
  let v43 : BitVec 32 := Scalar.muli v42 c8000_i32_41
  let c0_i32_46 : BitVec 32 := 0#32
  ![v43.toNat, 0]
def k0_cond1 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32 : BitVec 32 := 4#32
  let v41 : BitVec 32 := Scalar.muli arg8 c4_i32
  let c0_i32_40 : BitVec 32 := 0#32
  let v42 : BitVec 32 := Scalar.addi v41 c0_i32_40
  let c4_i32_47 : BitVec 32 := 4#32
  let v49 : BitVec 1 := Scalar.cmpi .sge v42 c4_i32_47
  let v50 : BitVec 32 := Scalar.extui v49
  let c0_i32_48 : BitVec 32 := 0#32
  let v51 : BitVec 1 := Scalar.cmpi .ne v50 c0_i32_48
  v51

def k0_off2 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32 : BitVec 32 := 4#32
  let v41 : BitVec 32 := Scalar.muli arg8 c4_i32
  let c0_i32_40 : BitVec 32 := 0#32
  let v42 : BitVec 32 := Scalar.addi v41 c0_i32_40
  let c4_i32_153 : BitVec 32 := 4#32
  let v177 : BitVec 32 := Scalar.subi v42 c4_i32_153
  let c8000_i32_154 : BitVec 32 := 8000#32
  let v178 : BitVec 32 := Scalar.muli v177 c8000_i32_154
  let c0_i32_157 : BitVec 32 := 0#32
  ![v178.toNat, 0]
def k0_off3 (k0_t1 : Fin k0_t1_loop.trips) (c0_i32_40 : BitVec 32) : Fin 2 → Nat :=
  let c0_i32_17 : BitVec 32 := 0#32
  let c1_i32_18 : BitVec 32 := 1#32
  let arg8 : BitVec 32 := Scf.iv c0_i32_17 c1_i32_18 k0_t1
  let c4_i32 : BitVec 32 := 4#32
  let v41 : BitVec 32 := Scalar.muli arg8 c4_i32
  let v42 : BitVec 32 := Scalar.addi v41 c0_i32_40
  let c8000_i32_58 : BitVec 32 := 8000#32
  let v65 : BitVec 32 := Scalar.muli v42 c8000_i32_58
  let c0_i32_61 : BitVec 32 := 0#32
  ![v65.toNat, 0]
def k0_cond2 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32 : BitVec 32 := 4#32
  let v41 : BitVec 32 := Scalar.muli arg8 c4_i32
  let c0_i32_40 : BitVec 32 := 0#32
  let v42 : BitVec 32 := Scalar.addi v41 c0_i32_40
  let c4_i32_64 : BitVec 32 := 4#32
  let v71 : BitVec 32 := Scalar.addi v42 c4_i32_64
  let c200_i32 : BitVec 32 := 200#32
  let v72 : BitVec 1 := Scalar.cmpi .slt v71 c200_i32
  let v73 : BitVec 32 := Scalar.extui v72
  let c0_i32_65 : BitVec 32 := 0#32
  let v74 : BitVec 1 := Scalar.cmpi .ne v73 c0_i32_65
  v74

def k0_off4 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32 : BitVec 32 := 4#32
  let v41 : BitVec 32 := Scalar.muli arg8 c4_i32
  let c0_i32_40 : BitVec 32 := 0#32
  let v42 : BitVec 32 := Scalar.addi v41 c0_i32_40
  let c4_i32_153 : BitVec 32 := 4#32
  let v177 : BitVec 32 := Scalar.addi v42 c4_i32_153
  let c8000_i32_154 : BitVec 32 := 8000#32
  let v178 : BitVec 32 := Scalar.muli v177 c8000_i32_154
  let c0_i32_159 : BitVec 32 := 0#32
  ![v178.toNat, 0]
def k0_cond3 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32_66 : BitVec 32 := 4#32
  let v75 : BitVec 32 := Scalar.muli arg8 c4_i32_66
  let c1_i32_67 : BitVec 32 := 1#32
  let v76 : BitVec 32 := Scalar.addi v75 c1_i32_67
  let c4_i32_74 : BitVec 32 := 4#32
  let v83 : BitVec 1 := Scalar.cmpi .sge v76 c4_i32_74
  let v84 : BitVec 32 := Scalar.extui v83
  let c0_i32_75 : BitVec 32 := 0#32
  let v85 : BitVec 1 := Scalar.cmpi .ne v84 c0_i32_75
  v85

def k0_off5 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32_66 : BitVec 32 := 4#32
  let v75 : BitVec 32 := Scalar.muli arg8 c4_i32_66
  let c1_i32_67 : BitVec 32 := 1#32
  let v76 : BitVec 32 := Scalar.addi v75 c1_i32_67
  let c4_i32_153 : BitVec 32 := 4#32
  let v177 : BitVec 32 := Scalar.subi v76 c4_i32_153
  let c8000_i32_154 : BitVec 32 := 8000#32
  let v178 : BitVec 32 := Scalar.muli v177 c8000_i32_154
  let c0_i32_157 : BitVec 32 := 0#32
  ![v178.toNat, 0]
def k0_cond4 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32_66 : BitVec 32 := 4#32
  let v75 : BitVec 32 := Scalar.muli arg8 c4_i32_66
  let c1_i32_67 : BitVec 32 := 1#32
  let v76 : BitVec 32 := Scalar.addi v75 c1_i32_67
  let c4_i32_92 : BitVec 32 := 4#32
  let v105 : BitVec 32 := Scalar.addi v76 c4_i32_92
  let c200_i32_93 : BitVec 32 := 200#32
  let v106 : BitVec 1 := Scalar.cmpi .slt v105 c200_i32_93
  let v107 : BitVec 32 := Scalar.extui v106
  let c0_i32_94 : BitVec 32 := 0#32
  let v108 : BitVec 1 := Scalar.cmpi .ne v107 c0_i32_94
  v108

def k0_off6 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32_66 : BitVec 32 := 4#32
  let v75 : BitVec 32 := Scalar.muli arg8 c4_i32_66
  let c1_i32_67 : BitVec 32 := 1#32
  let v76 : BitVec 32 := Scalar.addi v75 c1_i32_67
  let c4_i32_153 : BitVec 32 := 4#32
  let v177 : BitVec 32 := Scalar.addi v76 c4_i32_153
  let c8000_i32_154 : BitVec 32 := 8000#32
  let v178 : BitVec 32 := Scalar.muli v177 c8000_i32_154
  let c0_i32_159 : BitVec 32 := 0#32
  ![v178.toNat, 0]
def k0_cond5 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32_95 : BitVec 32 := 4#32
  let v109 : BitVec 32 := Scalar.muli arg8 c4_i32_95
  let c2_i32_96 : BitVec 32 := 2#32
  let v110 : BitVec 32 := Scalar.addi v109 c2_i32_96
  let c4_i32_103 : BitVec 32 := 4#32
  let v117 : BitVec 1 := Scalar.cmpi .sge v110 c4_i32_103
  let v118 : BitVec 32 := Scalar.extui v117
  let c0_i32_104 : BitVec 32 := 0#32
  let v119 : BitVec 1 := Scalar.cmpi .ne v118 c0_i32_104
  v119

def k0_off7 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32_95 : BitVec 32 := 4#32
  let v109 : BitVec 32 := Scalar.muli arg8 c4_i32_95
  let c2_i32_96 : BitVec 32 := 2#32
  let v110 : BitVec 32 := Scalar.addi v109 c2_i32_96
  let c4_i32_153 : BitVec 32 := 4#32
  let v177 : BitVec 32 := Scalar.subi v110 c4_i32_153
  let c8000_i32_154 : BitVec 32 := 8000#32
  let v178 : BitVec 32 := Scalar.muli v177 c8000_i32_154
  let c0_i32_157 : BitVec 32 := 0#32
  ![v178.toNat, 0]
def k0_cond6 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32_95 : BitVec 32 := 4#32
  let v109 : BitVec 32 := Scalar.muli arg8 c4_i32_95
  let c2_i32_96 : BitVec 32 := 2#32
  let v110 : BitVec 32 := Scalar.addi v109 c2_i32_96
  let c4_i32_121 : BitVec 32 := 4#32
  let v139 : BitVec 32 := Scalar.addi v110 c4_i32_121
  let c200_i32_122 : BitVec 32 := 200#32
  let v140 : BitVec 1 := Scalar.cmpi .slt v139 c200_i32_122
  let v141 : BitVec 32 := Scalar.extui v140
  let c0_i32_123 : BitVec 32 := 0#32
  let v142 : BitVec 1 := Scalar.cmpi .ne v141 c0_i32_123
  v142

def k0_off8 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32_95 : BitVec 32 := 4#32
  let v109 : BitVec 32 := Scalar.muli arg8 c4_i32_95
  let c2_i32_96 : BitVec 32 := 2#32
  let v110 : BitVec 32 := Scalar.addi v109 c2_i32_96
  let c4_i32_153 : BitVec 32 := 4#32
  let v177 : BitVec 32 := Scalar.addi v110 c4_i32_153
  let c8000_i32_154 : BitVec 32 := 8000#32
  let v178 : BitVec 32 := Scalar.muli v177 c8000_i32_154
  let c0_i32_159 : BitVec 32 := 0#32
  ![v178.toNat, 0]
def k0_cond7 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32_124 : BitVec 32 := 4#32
  let v143 : BitVec 32 := Scalar.muli arg8 c4_i32_124
  let c3_i32_125 : BitVec 32 := 3#32
  let v144 : BitVec 32 := Scalar.addi v143 c3_i32_125
  let c4_i32_132 : BitVec 32 := 4#32
  let v151 : BitVec 1 := Scalar.cmpi .sge v144 c4_i32_132
  let v152 : BitVec 32 := Scalar.extui v151
  let c0_i32_133 : BitVec 32 := 0#32
  let v153 : BitVec 1 := Scalar.cmpi .ne v152 c0_i32_133
  v153

def k0_off9 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32_124 : BitVec 32 := 4#32
  let v143 : BitVec 32 := Scalar.muli arg8 c4_i32_124
  let c3_i32_125 : BitVec 32 := 3#32
  let v144 : BitVec 32 := Scalar.addi v143 c3_i32_125
  let c4_i32_153 : BitVec 32 := 4#32
  let v177 : BitVec 32 := Scalar.subi v144 c4_i32_153
  let c8000_i32_154 : BitVec 32 := 8000#32
  let v178 : BitVec 32 := Scalar.muli v177 c8000_i32_154
  let c0_i32_157 : BitVec 32 := 0#32
  ![v178.toNat, 0]
def k0_cond8 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c4_i32_124 : BitVec 32 := 4#32
  let v143 : BitVec 32 := Scalar.muli arg8 c4_i32_124
  let c3_i32_125 : BitVec 32 := 3#32
  let v144 : BitVec 32 := Scalar.addi v143 c3_i32_125
  let c4_i32_150 : BitVec 32 := 4#32
  let v173 : BitVec 32 := Scalar.addi v144 c4_i32_150
  let c200_i32_151 : BitVec 32 := 200#32
  let v174 : BitVec 1 := Scalar.cmpi .slt v173 c200_i32_151
  let v175 : BitVec 32 := Scalar.extui v174
  let c0_i32_152 : BitVec 32 := 0#32
  let v176 : BitVec 1 := Scalar.cmpi .ne v175 c0_i32_152
  v176

def k0_off10 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c4_i32_124 : BitVec 32 := 4#32
  let v143 : BitVec 32 := Scalar.muli arg8 c4_i32_124
  let c3_i32_125 : BitVec 32 := 3#32
  let v144 : BitVec 32 := Scalar.addi v143 c3_i32_125
  let c4_i32_153 : BitVec 32 := 4#32
  let v177 : BitVec 32 := Scalar.addi v144 c4_i32_153
  let c8000_i32_154 : BitVec 32 := 8000#32
  let v178 : BitVec 32 := Scalar.muli v177 c8000_i32_154
  let c0_i32_159 : BitVec 32 := 0#32
  ![v178.toNat, 0]
abbrev stage0_0 : Fin 1 → Memref sig .tc .vmem S16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1600000x16 : Shape := ⟨2, ![1600000, 16]⟩
abbrev S128x16 : Shape := ⟨2, ![128, 16]⟩
abbrev S128 : Shape := ⟨1, ![128]⟩
abbrev S16x128 : Shape := ⟨2, ![16, 128]⟩
abbrev S1600000x128 : Shape := ⟨2, ![1600000, 128]⟩
abbrev S1x128 : Shape := ⟨2, ![1, 128]⟩

abbrev nBuf : Space → Nat
  | .hbm => 8
  | .vmem => 0
  | .smem => 0
  | _ => 0

abbrev bufTy : (tb : Table) → Fin (tcTables nBuf tb) → BufTy
  | .hbm, ⟨0, _⟩ => ⟨S1600000x16, .f32⟩
  | .hbm, ⟨1, _⟩ => ⟨S128x16, .f32⟩
  | .hbm, ⟨2, _⟩ => ⟨S128, .f32⟩
  | .hbm, ⟨3, _⟩ => ⟨S16x128, .f32⟩
  | .hbm, ⟨4, _⟩ => ⟨S1600000x128, .f32⟩
  | .hbm, ⟨5, _⟩ => ⟨S1x128, .f32⟩
  | .hbm, ⟨6, _⟩ => ⟨S1600000x128, .f32⟩
  | .hbm, ⟨7, _⟩ => ⟨S1600000x128, .f32⟩
  | _, _ => ⟨S1600000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Names.lean ====
/-
  The kernel's transfers by name.

  The kernel keeps a ring of four input slots and four output slots, each with its own transfer semaphore, and walks
  the rows of `x` and of the result in 50 groups of four chunks of 8000 rows. This module names the pieces of memory
  the transfers move (a chunk of `x`, a chunk of the result, an input slot, an output slot) and the semaphores they
  signal, and states that the slices the body computes are those pieces.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.KitQuiescent
public import Idealize.ShloMosaic.Lib.Ring
public import Idealize.ShloMosaic.Lib.Tactic

@[expose] public section

noncomputable section

namespace Cert.Proof.Ring4

open Cert.Kernel Cert.Kernel.Gen
open Idealize.ShloMosaic

/-! ## The pieces -/

/-- The array `x`, left where it is. -/
abbrev xM : Memref sig .tc .hbm S1600000x16 .f32 := Memref.whole main_arg0
/-- The result array, left where it is. -/
abbrev oM : Memref sig .tc .hbm S1600000x128 .f32 := Memref.whole main_v3
/-- The four input slots together. -/
abbrev inM : Memref sig .tc .vmem S4x8000x16 .f32 := Memref.whole cc0_scratch0
/-- The four output slots together. -/
abbrev outM : Memref sig .tc .vmem S4x8000x128 .f32 := Memref.whole cc0_scratch1

/-- Where chunk `j` of group `g` starts. -/
abbrev chunkOff (g : Fin 50) (j : Fin 4) : Fin 2 → Nat := ![32000 * g.val + 8000 * j.val, 0]
/-- Where slot `j` starts. -/
abbrev slotOff (j : Fin 4) : Fin 3 → Nat := ![j.val, 0, 0]
/-- Where semaphore `j` is. -/
abbrev semOff (j : Fin 4) : Fin 1 → Nat := ![j.val]

/-- A chunk lies inside an array of 1600000 rows of any width. -/
theorem chunk_rows (g : Fin 50) (j : Fin 4) : 32000 * g.val + 8000 * j.val + 8000 ≤ 1600000 := by omega

/-- A chunk of `x` lies inside `x`. -/
theorem xOff_inb (g : Fin 50) (j : Fin 4) : ∀ a, chunkOff g j a + S8000x16.size a ≤ S1600000x16.size a := by
  intro a; fin_cases a
  · exact chunk_rows g j
  · exact Nat.le_refl 16
/-- A chunk of the result lies inside the result. -/
theorem oOff_inb (g : Fin 50) (j : Fin 4) : ∀ a, chunkOff g j a + S8000x128.size a ≤ S1600000x128.size a := by
  intro a; fin_cases a
  · exact chunk_rows g j
  · exact Nat.le_refl 128
/-- An input slot lies inside the input slots. -/
theorem inOff_inb (j : Fin 4) : ∀ a, slotOff j a + S1x8000x16.size a ≤ S4x8000x16.size a := by
  have := j.isLt; intro a; fin_cases a
  · show j.val + 1 ≤ 4; omega
  · exact Nat.le_refl 8000
  · exact Nat.le_refl 16
/-- An output slot lies inside the output slots. -/
theorem outOff_inb (j : Fin 4) : ∀ a, slotOff j a + S1x8000x128.size a ≤ S4x8000x128.size a := by
  have := j.isLt; intro a; fin_cases a
  · show j.val + 1 ≤ 4; omega
  · exact Nat.le_refl 8000
  · exact Nat.le_refl 128
/-- A semaphore is one of the four. -/
theorem semOff_inb (j : Fin 4) : ∀ a, semOff j a + S1.size a ≤ S4.size a := by
  have := j.isLt; intro a; fin_cases a; show j.val + 1 ≤ 4; omega

/-- Chunk `j` of group `g` of `x`. -/
def xch (g : Fin 50) (j : Fin 4) : Memref sig .tc .hbm S8000x16 .f32 :=
  xM.slice (Rect.unit (s := S1600000x16) (chunkOff g j) S8000x16.size (xOff_inb g j)) (fun _ => rfl)
/-- Chunk `j` of group `g` of the result. -/
def och (g : Fin 50) (j : Fin 4) : Memref sig .tc .hbm S8000x128 .f32 :=
  oM.slice (Rect.unit (s := S1600000x128) (chunkOff g j) S8000x128.size (oOff_inb g j)) (fun _ => rfl)
/-- Input slot `j`. -/
def islot (j : Fin 4) : Memref sig .tc .vmem S8000x16 .f32 :=
  (inM.slice (Rect.unit (s := S4x8000x16) (slotOff j) S1x8000x16.size (inOff_inb j)) (fun _ => rfl)).squeeze S8000x16 squeezes_S1x8000x16_S8000x16
/-- Output slot `j`. -/
def oslot (j : Fin 4) : Memref sig .tc .vmem S8000x128 .f32 :=
  (outM.slice (Rect.unit (s := S4x8000x128) (slotOff j) S1x8000x128.size (outOff_inb j)) (fun _ => rfl)).squeeze S8000x128 squeezes_S1x8000x128_S8000x128
/-- Input slot `j`'s semaphore. -/
def isem (j : Fin 4) : DmaSems sig S_ :=
  (cc0_scratch2.slice (Rect.unit (s := S4) (semOff j) S1.size (semOff_inb j))).squeeze S_ squeezes_S1_S_
/-- Output slot `j`'s semaphore. -/
def osem (j : Fin 4) : DmaSems sig S_ :=
  (cc0_scratch3.slice (Rect.unit (s := S4) (semOff j) S1.size (semOff_inb j))).squeeze S_ squeezes_S1_S_

instance (j : Fin 4) : ClosedOff (slotOff j) := ⟨slotOff j, rfl⟩
instance (g : Fin 50) (j : Fin 4) : ClosedOff (chunkOff g j) := ⟨chunkOff g j, rfl⟩

/-! ## The body's conditions, trip by trip -/

/-- A trip is one of 50. -/
theorem trips_eq : k0_t1_loop.trips = 50 := by decide
theorem trip_lt (k : Fin k0_t1_loop.trips) : k.val < 50 := Nat.lt_of_lt_of_eq k.isLt trips_eq

/-- From the second trip on, each slot first waits for the copy out it issued a trip before. -/
theorem later (k : Fin k0_t1_loop.trips) (h : 1 ≤ k.val) :
    k0_cond1 k = 1#1 ∧ k0_cond3 k = 1#1 ∧ k0_cond5 k = 1#1 ∧ k0_cond7 k = 1#1 := by
  revert k; decide +kernel
/-- The first trip waits for no copy out. -/
theorem first (k : Fin k0_t1_loop.trips) (h : k.val = 0) :
    ¬ k0_cond1 k = 1#1 ∧ ¬ k0_cond3 k = 1#1 ∧ ¬ k0_cond5 k = 1#1 ∧ ¬ k0_cond7 k = 1#1 := by
  revert k; decide +kernel
/-- Before the last trip, each slot asks for its chunk of the next group. -/
theorem early (k : Fin k0_t1_loop.trips) (h : k.val < 49) :
    k0_cond2 k = 1#1 ∧ k0_cond4 k = 1#1 ∧ k0_cond6 k = 1#1 ∧ k0_cond8 k = 1#1 := by
  revert k; decide +kernel
/-- The last trip asks for nothing more. -/
theorem last (k : Fin k0_t1_loop.trips) (h : k.val = 49) :
    ¬ k0_cond2 k = 1#1 ∧ ¬ k0_cond4 k = 1#1 ∧ ¬ k0_cond6 k = 1#1 ∧ ¬ k0_cond8 k = 1#1 := by
  revert k; decide +kernel

/-! ## The body's offsets are the pieces' -/

theorem off_here {k r : Nat} (hk : k < 50) (j : Fin 4) (hr : r = j.val) :
    (![32000 * k + 8000 * r, 0] : Fin 2 → Nat) = chunkOff (Ring.bk 50 k) j := by
  subst hr; unfold chunkOff; rw [Ring.bk_val hk]
theorem off_next {k a : Nat} (hk : k + 1 < 50) (j : Fin 4) (ha : a = 32000 + 8000 * j.val) :
    (![32000 * k + a, 0] : Fin 2 → Nat) = chunkOff (Ring.bk 50 (k + 1)) j := by
  subst ha; unfold chunkOff; rw [Ring.bk_val hk]; congr 1; omega

/-- The copies out waited for in trip `k ≥ 1` are the group before's. -/
theorem off_prev (k : Fin k0_t1_loop.trips) (h : 1 ≤ k.val) :
    k0_off2 k = chunkOff (Ring.bk 50 (k.val - 1)) 0 ∧ k0_off5 k = chunkOff (Ring.bk 50 (k.val - 1)) 1
      ∧ k0_off7 k = chunkOff (Ring.bk 50 (k.val - 1)) 2 ∧ k0_off9 k = chunkOff (Ring.bk 50 (k.val - 1)) 3 := by
  revert k; decide +kernel

/-! ### The body's slices by name -/

theorem xch_congr {off : Fin 2 → Nat} {g : Fin 50} {j : Fin 4} (e : off = chunkOff g j) (hh hs) :
    xM.slice (Rect.unit (s := S1600000x16) off S8000x16.size hh) hs = xch g j := Memref.slice_unit_congr _ e _ _ _ (fun _ => rfl)
theorem och_congr {off : Fin 2 → Nat} {g : Fin 50} {j : Fin 4} (e : off = chunkOff g j) (hh hs) :
    oM.slice (Rect.unit (s := S1600000x128) off S8000x128.size hh) hs = och g j := Memref.slice_unit_congr _ e _ _ _ (fun _ => rfl)
theorem islot_congr {off : Fin 3 → Nat} {j : Fin 4} (e : off = slotOff j) (hh hs) :
    (inM.slice (Rect.unit (s := S4x8000x16) off S1x8000x16.size hh) hs).squeeze S8000x16 squeezes_S1x8000x16_S8000x16 = islot j :=
  congrArg (fun M : Memref sig .tc .vmem S1x8000x16 .f32 => M.squeeze S8000x16 squeezes_S1x8000x16_S8000x16) (Memref.slice_unit_congr _ e _ _ _ _)
theorem oslot_congr {off : Fin 3 → Nat} {j : Fin 4} (e : off = slotOff j) (hh hs) :
    (outM.slice (Rect.unit (s := S4x8000x128) off S1x8000x128.size hh) hs).squeeze S8000x128 squeezes_S1x8000x128_S8000x128 = oslot j :=
  congrArg (fun M : Memref sig .tc .vmem S1x8000x128 .f32 => M.squeeze S8000x128 squeezes_S1x8000x128_S8000x128) (Memref.slice_unit_congr _ e _ _ _ _)
theorem isem_congr {off : Fin 1 → Nat} {j : Fin 4} (e : off = semOff j) (hh) :
    (cc0_scratch2.slice (Rect.unit (s := S4) off S1.size hh)).squeeze S_ squeezes_S1_S_ = isem j :=
  congrArg (fun A : DmaSems sig S1 => A.squeeze S_ squeezes_S1_S_) (SemArray.slice_unit_congr _ e _ _)
theorem osem_congr {off : Fin 1 → Nat} {j : Fin 4} (e : off = semOff j) (hh) :
    (cc0_scratch3.slice (Rect.unit (s := S4) off S1.size hh)).squeeze S_ squeezes_S1_S_ = osem j :=
  congrArg (fun A : DmaSems sig S1 => A.squeeze S_ squeezes_S1_S_) (SemArray.slice_unit_congr _ e _ _)

section Slots
@[sl_canon] theorem islot0 (hh hs) : (inM.slice (Rect.unit (s := S4x8000x16) ![0, 0, 0] S1x8000x16.size hh) hs).squeeze S8000x16 squeezes_S1x8000x16_S8000x16 = islot 0 := islot_congr (by decide) _ _
@[sl_canon] theorem islot1 (hh hs) : (inM.slice (Rect.unit (s := S4x8000x16) ![1, 0, 0] S1x8000x16.size hh) hs).squeeze S8000x16 squeezes_S1x8000x16_S8000x16 = islot 1 := islot_congr (by decide) _ _
@[sl_canon] theorem islot2 (hh hs) : (inM.slice (Rect.unit (s := S4x8000x16) ![2, 0, 0] S1x8000x16.size hh) hs).squeeze S8000x16 squeezes_S1x8000x16_S8000x16 = islot 2 := islot_congr (by decide) _ _
@[sl_canon] theorem islot3 (hh hs) : (inM.slice (Rect.unit (s := S4x8000x16) ![3, 0, 0] S1x8000x16.size hh) hs).squeeze S8000x16 squeezes_S1x8000x16_S8000x16 = islot 3 := islot_congr (by decide) _ _
@[sl_canon] theorem oslot0 (hh hs) : (outM.slice (Rect.unit (s := S4x8000x128) ![0, 0, 0] S1x8000x128.size hh) hs).squeeze S8000x128 squeezes_S1x8000x128_S8000x128 = oslot 0 := oslot_congr (by decide) _ _
@[sl_canon] theorem oslot1 (hh hs) : (outM.slice (Rect.unit (s := S4x8000x128) ![1, 0, 0] S1x8000x128.size hh) hs).squeeze S8000x128 squeezes_S1x8000x128_S8000x128 = oslot 1 := oslot_congr (by decide) _ _
@[sl_canon] theorem oslot2 (hh hs) : (outM.slice (Rect.unit (s := S4x8000x128) ![2, 0, 0] S1x8000x128.size hh) hs).squeeze S8000x128 squeezes_S1x8000x128_S8000x128 = oslot 2 := oslot_congr (by decide) _ _
@[sl_canon] theorem oslot3 (hh hs) : (outM.slice (Rect.unit (s := S4x8000x128) ![3, 0, 0] S1x8000x128.size hh) hs).squeeze S8000x128 squeezes_S1x8000x128_S8000x128 = oslot 3 := oslot_congr (by decide) _ _
@[sl_canon] theorem isem0 (hh) : (cc0_scratch2.slice (Rect.unit (s := S4) ![0] S1.size hh)).squeeze S_ squeezes_S1_S_ = isem 0 := isem_congr (by decide) _
@[sl_canon] theorem isem1 (hh) : (cc0_scratch2.slice (Rect.unit (s := S4) ![1] S1.size hh)).squeeze S_ squeezes_S1_S_ = isem 1 := isem_congr (by decide) _
@[sl_canon] theorem isem2 (hh) : (cc0_scratch2.slice (Rect.unit (s := S4) ![2] S1.size hh)).squeeze S_ squeezes_S1_S_ = isem 2 := isem_congr (by decide) _
@[sl_canon] theorem isem3 (hh) : (cc0_scratch2.slice (Rect.unit (s := S4) ![3] S1.size hh)).squeeze S_ squeezes_S1_S_ = isem 3 := isem_congr (by decide) _
@[sl_canon] theorem osem0 (hh) : (cc0_scratch3.slice (Rect.unit (s := S4) ![0] S1.size hh)).squeeze S_ squeezes_S1_S_ = osem 0 := osem_congr (by decide) _
@[sl_canon] theorem osem1 (hh) : (cc0_scratch3.slice (Rect.unit (s := S4) ![1] S1.size hh)).squeeze S_ squeezes_S1_S_ = osem 1 := osem_congr (by decide) _
@[sl_canon] theorem osem2 (hh) : (cc0_scratch3.slice (Rect.unit (s := S4) ![2] S1.size hh)).squeeze S_ squeezes_S1_S_ = osem 2 := osem_congr (by decide) _
@[sl_canon] theorem osem3 (hh) : (cc0_scratch3.slice (Rect.unit (s := S4) ![3] S1.size hh)).squeeze S_ squeezes_S1_S_ = osem 3 := osem_congr (by decide) _
end Slots

/-! The first four chunks of `x`, asked for before the loop, and the last four of the result, waited for after it. -/
@[sl_canon] theorem xchP0 (hh hs) : xM.slice (Rect.unit (s := S1600000x16) ![0, 0] S8000x16.size hh) hs = xch (Ring.bk 50 0) 0 := xch_congr (by decide) _ _
@[sl_canon] theorem xchP1 (hh hs) : xM.slice (Rect.unit (s := S1600000x16) ![8000, 0] S8000x16.size hh) hs = xch (Ring.bk 50 0) 1 := xch_congr (by decide) _ _
@[sl_canon] theorem xchP2 (hh hs) : xM.slice (Rect.unit (s := S1600000x16) ![16000, 0] S8000x16.size hh) hs = xch (Ring.bk 50 0) 2 := xch_congr (by decide) _ _
@[sl_canon] theorem xchP3 (hh hs) : xM.slice (Rect.unit (s := S1600000x16) ![24000, 0] S8000x16.size hh) hs = xch (Ring.bk 50 0) 3 := xch_congr (by decide) _ _
@[sl_canon] theorem ochE0 (hh hs) : oM.slice (Rect.unit (s := S1600000x128) ![1568000, 0] S8000x128.size hh) hs = och (Ring.bk 50 49) 0 := och_congr (by decide) _ _
@[sl_canon] theorem ochE1 (hh hs) : oM.slice (Rect.unit (s := S1600000x128) ![1576000, 0] S8000x128.size hh) hs = och (Ring.bk 50 49) 1 := och_congr (by decide) _ _
@[sl_canon] theorem ochE2 (hh hs) : oM.slice (Rect.unit (s := S1600000x128) ![1584000, 0] S8000x128.size hh) hs = och (Ring.bk 50 49) 2 := och_congr (by decide) _ _
@[sl_canon] theorem ochE3 (hh hs) : oM.slice (Rect.unit (s := S1600000x128) ![1592000, 0] S8000x128.size hh) hs = och (Ring.bk 50 49) 3 := och_congr (by decide) _ _

/-! In trip `k`: the chunks of `x` waited for and of the result sent are group `k`'s … -/
section Trip
variable (k : Fin k0_t1_loop.trips)
@[sl_canon] theorem xchW0 (hh hs) : xM.slice (Rect.unit (s := S1600000x16) (k0_off1 k 0#32) S8000x16.size hh) hs = xch (Ring.bk 50 k.val) 0 := xch_congr ((k0_off1_eq k 0).trans (off_here (trip_lt k) 0 rfl)) _ _
@[sl_canon] theorem xchW1 (hh hs) : xM.slice (Rect.unit (s := S1600000x16) (k0_off1 k 1#32) S8000x16.size hh) hs = xch (Ring.bk 50 k.val) 1 := xch_congr ((k0_off1_eq k 1).trans (off_here (trip_lt k) 1 rfl)) _ _
@[sl_canon] theorem xchW2 (hh hs) : xM.slice (Rect.unit (s := S1600000x16) (k0_off1 k 2#32) S8000x16.size hh) hs = xch (Ring.bk 50 k.val) 2 := xch_congr ((k0_off1_eq k 2).trans (off_here (trip_lt k) 2 rfl)) _ _
@[sl_canon] theorem xchW3 (hh hs) : xM.slice (Rect.unit (s := S1600000x16) (k0_off1 k 3#32) S8000x16.size hh) hs = xch (Ring.bk 50 k.val) 3 := xch_congr ((k0_off1_eq k 3).trans (off_here (trip_lt k) 3 rfl)) _ _
@[sl_canon] theorem ochS0 (hh hs) : oM.slice (Rect.unit (s := S1600000x128) (k0_off3 k 0#32) S8000x128.size hh) hs = och (Ring.bk 50 k.val) 0 := och_congr ((k0_off3_eq k 0).trans (off_here (trip_lt k) 0 rfl)) _ _
@[sl_canon] theorem ochS1 (hh hs) : oM.slice (Rect.unit (s := S1600000x128) (k0_off3 k 1#32) S8000x128.size hh) hs = och (Ring.bk 50 k.val) 1 := och_congr ((k0_off3_eq k 1).trans (off_here (trip_lt k) 1 rfl)) _ _
@[sl_canon] theorem ochS2 (hh hs) : oM.slice (Rect.unit (s := S1600000x128) (k0_off3 k 2#32) S8000x128.size hh) hs = och (Ring.bk 50 k.val) 2 := och_congr ((k0_off3_eq k 2).trans (off_here (trip_lt k) 2 rfl)) _ _
@[sl_canon] theorem ochS3 (hh hs) : oM.slice (Rect.unit (s := S1600000x128) (k0_off3 k 3#32) S8000x128.size hh) hs = och (Ring.bk 50 k.val) 3 := och_congr ((k0_off3_eq k 3).trans (off_here (trip_lt k) 3 rfl)) _ _
/-! … the chunks of `x` asked for are the next group's … -/
@[sl_canon] theorem xchN0 (h : k.val < 49) (hh hs) : xM.slice (Rect.unit (s := S1600000x16) (k0_off4 k) S8000x16.size hh) hs = xch (Ring.bk 50 (k.val + 1)) 0 := xch_congr ((k0_off4_eq k).trans (off_next (Nat.succ_lt_succ h) 0 rfl)) _ _
@[sl_canon] theorem xchN1 (h : k.val < 49) (hh hs) : xM.slice (Rect.unit (s := S1600000x16) (k0_off6 k) S8000x16.size hh) hs = xch (Ring.bk 50 (k.val + 1)) 1 := xch_congr ((k0_off6_eq k).trans (off_next (Nat.succ_lt_succ h) 1 rfl)) _ _
@[sl_canon] theorem xchN2 (h : k.val < 49) (hh hs) : xM.slice (Rect.unit (s := S1600000x16) (k0_off8 k) S8000x16.size hh) hs = xch (Ring.bk 50 (k.val + 1)) 2 := xch_congr ((k0_off8_eq k).trans (off_next (Nat.succ_lt_succ h) 2 rfl)) _ _
@[sl_canon] theorem xchN3 (h : k.val < 49) (hh hs) : xM.slice (Rect.unit (s := S1600000x16) (k0_off10 k) S8000x16.size hh) hs = xch (Ring.bk 50 (k.val + 1)) 3 := xch_congr ((k0_off10_eq k).trans (off_next (Nat.succ_lt_succ h) 3 rfl)) _ _
/-! … and the chunks of the result waited for are the group before's. -/
@[sl_canon] theorem ochW0 (h : 1 ≤ k.val) (hh hs) : oM.slice (Rect.unit (s := S1600000x128) (k0_off2 k) S8000x128.size hh) hs = och (Ring.bk 50 (k.val - 1)) 0 := och_congr (off_prev k h).1 _ _
@[sl_canon] theorem ochW1 (h : 1 ≤ k.val) (hh hs) : oM.slice (Rect.unit (s := S1600000x128) (k0_off5 k) S8000x128.size hh) hs = och (Ring.bk 50 (k.val - 1)) 1 := och_congr (off_prev k h).2.1 _ _
@[sl_canon] theorem ochW2 (h : 1 ≤ k.val) (hh hs) : oM.slice (Rect.unit (s := S1600000x128) (k0_off7 k) S8000x128.size hh) hs = och (Ring.bk 50 (k.val - 1)) 2 := och_congr (off_prev k h).2.2.1 _ _
@[sl_canon] theorem ochW3 (h : 1 ≤ k.val) (hh hs) : oM.slice (Rect.unit (s := S1600000x128) (k0_off9 k) S8000x128.size hh) hs = och (Ring.bk 50 (k.val - 1)) 3 := och_congr (off_prev k h).2.2.2 _ _
end Trip

end Cert.Proof.Ring4

end
-- ==== Proof.Block.lean ====
/-
  What one chunk's work computes, as pure functions of the arrays.

  The body reads a chunk of `x` out of an input slot, multiplies it with the weights, adds the bias and leaves the
  product in an output slot, from which a transfer copies it to the result. Here: the chunk as the slot holds it
  (`xblk`), the whole result as a function of `x`, the weights and the bias (`result`), and the statement that what a
  transfer out of an output slot leaves in its chunk of the result is `result` there (`sent_eq`).
-/
module

public import proofs.«01_k».proof.Proof.Names
public import Idealize.ShloMosaic.Lib.ValueIdxCore
public import Idealize.ShloMosaic.Lib.ValueLayout
public import Idealize.ShloMosaic.Lib.ViewIndex
public import Idealize.ShloMosaic.Lib.Writes

@[expose] public section

noncomputable section

namespace Cert.Proof.Ring4

open Cert.Kernel Cert.Kernel.Gen
open Idealize.ShloMosaic
open Idealize.ShloMosaic.TcCoe
open Idealize.ShloMosaic.ValueIdx

variable {F : FTy → Type} [FloatOps F]

/-- The contents of `x` on core `c`. -/
abbrev XBuf (F : FTy → Type) (c : Dev nD) : Type := Buf (Elt F) (xM.view.loc (c : Thread nD τ))
/-- The contents of the result on core `c`. -/
abbrev OBuf (F : FTy → Type) (c : Dev nD) : Type := Buf (Elt F) (oM.view.loc (c : Thread nD τ))

/-- Chunk `j` of group `g` of `x`, in the shape the body loads it from its slot. -/
def xblk (c : Dev nD) (X : XBuf F c) (g : Fin 50) (j : Fin 4) : Vec F S1x8000x16 .f32 :=
  fun y => (xch g j).view.read (Elt F) X (ix2 (y 1) (y 2))

/-- The chunk's product: the chunk, rounded to the weights' format, times the weights, plus the bias. -/
abbrev oblk (c : Dev nD) (X : XBuf F c) (wt : Vec F S16x128 .bf16) (bs : Vec F S1x128 .f32) (g : Fin 50) (j : Fin 4) :
    Vec F S1x8000x128 .f32 :=
  k0_pay1 (xblk c X g j) wt bs

/-- The group a row belongs to. -/
abbrev rowGroup (r : Fin 1600000) : Fin 50 := ⟨r.val / 32000, by omega⟩
/-- The chunk of its group a row belongs to. -/
abbrev rowChunk (r : Fin 1600000) : Fin 4 := ⟨r.val % 32000 / 8000, by omega⟩
/-- The row's place in its chunk. -/
abbrev rowPlace (r : Fin 1600000) : Fin 8000 := ⟨r.val % 8000, Nat.mod_lt _ (by decide)⟩

/-- The whole result: row by row, the row of its chunk's product. -/
def result (c : Dev nD) (X : XBuf F c) (wt : Vec F S16x128 .bf16) (bs : Vec F S1x128 .f32) : OBuf F c :=
  fun i : S1600000x128.Idx => oblk c X wt bs (rowGroup (i 0)) (rowChunk (i 0)) (ix3 (n0 := 1) 0 (rowPlace (i 0)) (i 1))

set_option backward.isDefEq.respectTransparency.types false in
omit [FloatOps F] in
/-- Loading slot `j` through the four slots together, after chunk `j` of group `g` landed in it, gives that chunk. -/
theorem loaded_eq (c : Dev nD) (X : XBuf F c) (g : Fin 50) (j : Fin 4) (f : Buf (Elt F) ((islot j).view.loc (c : Thread nD τ))) :
    inM.view.readAt (Elt F) (Rect.unit (s := S4x8000x16) (slotOff j) S1x8000x16.size (inOff_inb j)).toLoadRect
        ((islot j).view.writes (Elt F) f [⟨Rect.whole S8000x16, ReadAs.same.apply ((xch g j).view.read (Elt F) X)⟩])
      = xblk c X g j := by
  funext y
  have hy : y = ix3 (n0 := 1) (n1 := 8000) (n2 := 16) 0 (y 1) (y 2) := by
    conv_lhs => rw [eq_ix3 y]
    exact congrArg (fun z : Fin 1 => ix3 z (y 1) (y 2)) (Fin.eq_zero _)
  conv_lhs => rw [hy]
  rw [← View.write_univ_eq_writes_whole, View.writes_nil, View.readAt_rect]
  refine (congrArg _ (reshapeEquiv_ix2_1ab squeezes_S1x8000x16_S8000x16.numel_eq (y 1) (y 2)).symm).trans ?_
  exact View.read_write_reshape (inM.view.slice (Rect.unit (s := S4x8000x16) (slotOff j) S1x8000x16.size (inOff_inb j)))
    squeezes_S1x8000x16_S8000x16.numel_eq f ((xch g j).view.read (Elt F) X) (ix2 (y 1) (y 2))

omit [FloatOps F] in
/-- Reading slot `j` after a store `w` of the whole slot gives the payload, the slot's leading axis dropped. -/
theorem stored_eq (c : Dev nD) (j : Fin 4) (g : Buf (Elt F) ((oslot j).view.loc (c : Thread nD τ))) (w : Vec F S1x8000x128 .f32)
    (r : Fin 8000) (l : Fin 128) :
    (oslot j).view.read (Elt F)
        ((outM.access (Rect.unit (s := S4x8000x128) (slotOff j) S1x8000x128.size (outOff_inb j))).write (Elt F) g w Finset.univ) (ix2 r l)
      = w (ix3 (n0 := 1) 0 r l) := by
  refine Eq.trans ?_ (congrArg w (reshapeEquiv_ix2_1ab squeezes_S1x8000x128_S8000x128.numel_eq r l))
  exact View.read_write_of_mem (v := outM.access (Rect.unit (s := S4x8000x128) (slotOff j) S1x8000x128.size (outOff_inb j))) g w (Finset.mem_univ _)

/-- Where a chunk's row is in the result. -/
theorem och_row (g : Fin 50) (j : Fin 4) (r : Fin 8000) (l : Fin 128) :
    ((och g j).view.emb (ix2 r l) : S1600000x128.Idx)
      = ix2 (n0 := 1600000) ⟨32000 * g.val + 8000 * j.val + r.val, by omega⟩ l := by
  funext a
  match a with
  | ⟨0, _⟩ => exact Fin.ext (show 32000 * g.val + 8000 * j.val + 1 * r.val = 32000 * g.val + 8000 * j.val + r.val by omega)
  | ⟨1, _⟩ => exact Fin.ext (show 0 + 1 * l.val = l.val by omega)

/-- The result at a chunk's row is the chunk's product there. -/
theorem result_row (c : Dev nD) (X : XBuf F c) (wt : Vec F S16x128 .bf16) (bs : Vec F S1x128 .f32) (g : Fin 50) (j : Fin 4)
    (r : Fin 8000) (l : Fin 128) :
    result c X wt bs ((och g j).view.emb (ix2 r l)) = oblk c X wt bs g j (ix3 (n0 := 1) 0 r l) := by
  have e0 : rowGroup ⟨32000 * g.val + 8000 * j.val + r.val, by omega⟩ = g := Fin.ext (by show (32000 * g.val + 8000 * j.val + r.val) / 32000 = g.val; omega)
  have e1 : rowChunk ⟨32000 * g.val + 8000 * j.val + r.val, by omega⟩ = j := Fin.ext (by show (32000 * g.val + 8000 * j.val + r.val) % 32000 / 8000 = j.val; omega)
  have e2 : rowPlace ⟨32000 * g.val + 8000 * j.val + r.val, by omega⟩ = r := Fin.ext (by show (32000 * g.val + 8000 * j.val + r.val) % 8000 = r.val; omega)
  refine (congrArg (result c X wt bs) (och_row g j r l)).trans ?_
  show oblk c X wt bs (rowGroup ⟨32000 * g.val + 8000 * j.val + r.val, _⟩) (rowChunk ⟨32000 * g.val + 8000 * j.val + r.val, _⟩)
    (ix3 (n0 := 1) 0 (rowPlace ⟨32000 * g.val + 8000 * j.val + r.val, _⟩) l) = _
  rw [e0, e1, e2]

set_option backward.isDefEq.respectTransparency.types false in
/-- What the transfer of slot `j`, holding chunk `j` of group `g`'s product, leaves in that chunk of the result is `result`. -/
theorem sent_eq (c : Dev nD) (X : XBuf F c) (wt : Vec F S16x128 .bf16) (bs : Vec F S1x128 .f32) (O : OBuf F c) (g : Fin 50) (j : Fin 4)
    (f : Buf (Elt F) ((oslot j).view.loc (c : Thread nD τ))) (i) (hi : i ∈ (och g j).view.set) :
    (och g j).view.writes (Elt F) O [⟨Rect.whole S8000x128, ReadAs.same.apply ((oslot j).view.read (Elt F)
        ((outM.access (Rect.unit (s := S4x8000x128) (slotOff j) S1x8000x128.size (outOff_inb j))).write (Elt F) f (oblk c X wt bs g j) Finset.univ))⟩] i
      = result c X wt bs i := by
  obtain ⟨y, -, rfl⟩ := Finset.mem_map.mp hi
  rw [← View.write_univ_eq_writes_whole, View.writes_nil, View.write_emb_of_mem _ _ (Finset.mem_univ y)]
  have hy : y = ix2 (n0 := 8000) (n1 := 128) (y 0) (y 1) := eq_ix2 y
  rw [hy, result_row]
  refine (cast_eq _ _).trans ?_
  refine (congrFun (ReadAs.apply_same _) _).trans ?_
  exact stored_eq c j f _ (y 0) (y 1)

/-- The third slot's product, which the body computes in two steps, is the same function of the chunk. -/
theorem pay_third (x : Vec F S1x8000x16 .f32) (wt : Vec F S16x128 .bf16) (bs : Vec F S1x128 .f32) :
    k0_pay4 (k0_pay3 x wt bs) = k0_pay1 x wt bs := rfl
/-- So is the fourth slot's, whose rounding the body does apart. -/
theorem pay_fourth (x : Vec F S1x8000x16 .f32) (wt : Vec F S16x128 .bf16) (bs : Vec F S1x128 .f32) :
    k0_pay6 (k0_pay5 x) wt bs = k0_pay1 x wt bs := rfl
/-- The second slot's product is the first's function. -/
theorem pay_second (x : Vec F S1x8000x16 .f32) (wt : Vec F S16x128 .bf16) (bs : Vec F S1x128 .f32) :
    k0_pay2 x wt bs = k0_pay1 x wt bs := rfl

end Cert.Proof.Ring4

end
-- ==== Proof.Pieces.lean ====
/-
  The resources of a trip.

  What the core holds, piece by piece: a chunk of an array at given contents, a slot at given contents, a slot's
  semaphore at zero, and a transfer in flight, which carries what it will hand back when waited for. A transfer into an
  input slot hands back the slot filled and its chunk of `x`; a transfer out of an output slot hands back its chunk of
  the result, filled, and the slot.
-/
module

public import proofs.«01_k».proof.Proof.Block

@[expose] public section

noncomputable section

namespace Cert.Proof.Ring4

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the pipeline's, and the counters the kernel's own transfers use. -/
abbrev UU (nD : Nat) (τ : Topo) : Type := UR sig nD τ × Counters
local notation "𝕄" => MT nD τ sig Unit (Elt F) ℕ (UU nD τ) ℕ
/-- No label needs a variant of its own. -/
abbrev 𝒱₀ : Variants := Variants.none

omit [FloatOps F] in
/-- Equal assertions entail each other. -/
theorem entails_of_eq {P Q : sProp 𝕄} (e : P = Q) : P ⊢ Q := e ▸ .rfl

variable (c : Dev nD)

/-- Input slot `j`'s semaphore, at zero. -/
abbrev icell (j : Fin 4) : sProp 𝕄 := semVal ((c : Thread nD τ), SemLoc.dma (isem j).sem) 0
/-- Output slot `j`'s semaphore, at zero. -/
abbrev ocell (j : Fin 4) : sProp 𝕄 := semVal ((c : Thread nD τ), SemLoc.dma (osem j).sem) 0
/-- Input slot `j`, holding `f`. -/
abbrev islotP (j : Fin 4) (f : Buf (Elt F) ((islot j).view.loc (c : Thread nD τ))) : sProp 𝕄 :=
  (islot j).view.loc (c : Thread nD τ) ↦[(islot j).view.set]{fullShare} f
/-- Output slot `j`, holding `f`. -/
abbrev oslotP (j : Fin 4) (f : Buf (Elt F) ((oslot j).view.loc (c : Thread nD τ))) : sProp 𝕄 :=
  (oslot j).view.loc (c : Thread nD τ) ↦[(oslot j).view.set]{fullShare} f
/-- Chunk `j` of group `g` of `x`, at the contents `X`. -/
abbrev xP (X : XBuf F c) (g : Fin 50) (j : Fin 4) : sProp 𝕄 :=
  (xch g j).view.loc (c : Thread nD τ) ↦[(xch g j).view.set]{fullShare} X
/-- Chunk `j` of group `g` of the result, at the contents `O`. -/
abbrev oP (O : OBuf F c) (g : Fin 50) (j : Fin 4) : sProp 𝕄 :=
  (och g j).view.loc (c : Thread nD τ) ↦[(och g j).view.set]{fullShare} O
/-- One assertion for each of the four chunks, slots or semaphores. -/
abbrev four (P : Fin 4 → sProp 𝕄) : sProp 𝕄 := iprop(P 0 ∗ P 1 ∗ P 2 ∗ P 3)

/-- Slot `j`, held `f` before, once chunk `j` of group `g` has landed in it. -/
abbrev landed (X : XBuf F c) (g : Fin 50) (j : Fin 4) (f : Buf (Elt F) ((islot j).view.loc (c : Thread nD τ))) :
    Buf (Elt F) ((islot j).view.loc (c : Thread nD τ)) :=
  (islot j).view.writes (Elt F) f [⟨Rect.whole S8000x16, ReadAs.same.apply ((xch g j).view.read (Elt F) X)⟩]

/-- Chunk `j` of group `g` of `x`, on its way into slot `j`, which held `f`. -/
abbrev iflight (X : XBuf F c) (g : Fin 50) (j : Fin 4) (f : Buf (Elt F) ((islot j).view.loc (c : Thread nD τ))) : sProp 𝕄 :=
  Transfers.Flight countersEmb (c : Thread nD τ) (SemLoc.dma (isem j).sem) () 128000 iprop(islotP c j (landed c X g j f) ∗ xP c X g j)
/-- Slot `j`, holding `f`, on its way to chunk `j` of group `g` of the result, which it leaves at `O`. -/
abbrev oflight (O : OBuf F c) (g : Fin 50) (j : Fin 4) (f : Buf (Elt F) ((oslot j).view.loc (c : Thread nD τ))) : sProp 𝕄 :=
  Transfers.Flight countersEmb (c : Thread nD τ) (SemLoc.dma (osem j).sem) () 128000 iprop(oP c O g j ∗ oslotP c j f)

/-- The four chunks of group `g` of `x` in flight. -/
abbrev incoming (X : XBuf F c) (g : Fin 50) : sProp 𝕄 := four fun j => iprop(∃ f, iflight c X g j f)
/-- The four chunks of group `g` of the result in flight. -/
abbrev outgoing (O : OBuf F c) (g : Fin 50) : sProp 𝕄 := four fun j => iprop(∃ f, oflight c O g j f)
/-- The four input slots idle. -/
abbrev inIdle : sProp 𝕄 := four (F := F) fun j => iprop((∃ f, islotP c j f) ∗ icell c j)
/-- The four output slots idle. -/
abbrev outIdle : sProp 𝕄 := four (F := F) fun j => iprop((∃ f, oslotP c j f) ∗ ocell c j)
/-- The four chunks of group `g` of `x`, in place. -/
abbrev xG (X : XBuf F c) (g : Fin 50) : sProp 𝕄 := four fun j => xP c X g j
/-- The four chunks of group `g` of the result, in place. -/
abbrev oG (O : OBuf F c) (g : Fin 50) : sProp 𝕄 := four fun j => oP c O g j

/-- A transfer into slot `j` issued while the slot holds what an earlier transfer brought. -/
theorem again (X : XBuf F c) (g g' : Fin 50) (j : Fin 4) :
    (Transfers.Flight countersEmb (c : Thread nD τ) (SemLoc.dma (isem j).sem) () 128000
        iprop(((islot j).view.loc (c : Thread nD τ) ↦[(islot j).view.set]{fullShare}
            (islot j).view.writes (Elt F) (islot j).view.junk
              [⟨Rect.whole S8000x16, ReadAs.same.apply ((xch g' j).view.read (Elt F) X)⟩,
                ⟨Rect.whole S8000x16, ReadAs.same.apply ((xch g j).view.read (Elt F) X)⟩])
          ∗ xP c X g' j) : sProp 𝕄)
      ⊢ iprop(∃ f, iflight c X g' j f) := by
  iintro H
  iexists landed c X g j (islot j).view.junk
  simp only [iflight, landed, islotP, View.writes]
  iexact H

/-- A transfer out of slot `j`, issued once the slot holds its chunk's product, will leave the chunk at `result`. -/
theorem oflight_sent (X : XBuf F c) (wt : Vec F S16x128 .bf16) (bs : Vec F S1x128 .f32) (O : OBuf F c) (g : Fin 50) (j : Fin 4)
    (f f' : Buf (Elt F) ((oslot j).view.loc (c : Thread nD τ))) (w : Vec F S1x8000x128 .f32) (hw : w = oblk c X wt bs g j) :
    Transfers.Flight countersEmb (c : Thread nD τ) (SemLoc.dma (osem j).sem) () 128000
        iprop(((och g j).view.loc (c : Thread nD τ) ↦[(och g j).view.set]{fullShare}
            (och g j).view.writes (Elt F) O [⟨Rect.whole S8000x128, ReadAs.same.apply ((oslot j).view.read (Elt F)
              ((outM.access (Rect.unit (s := S4x8000x128) (slotOff j) S1x8000x128.size (outOff_inb j))).write (Elt F) f w Finset.univ))⟩])
          ∗ oslotP c j f')
      = (oflight c (result c X wt bs) g j f' : sProp 𝕄) := by
  subst hw
  exact congrArg (fun P : sProp 𝕄 => Transfers.Flight countersEmb (c : Thread nD τ) (SemLoc.dma (osem j).sem) () 128000 iprop(P ∗ oslotP c j f'))
    (pointsTo_congr fun i hi => sent_eq c X wt bs O g j f i hi)

/-- The same for the product of the chunk that landed in input slot `j`. -/
theorem sent (X : XBuf F c) (wt : Vec F S16x128 .bf16) (bs : Vec F S1x128 .f32) (O : OBuf F c) (g : Fin 50) (j : Fin 4)
    (f f' : Buf (Elt F) ((oslot j).view.loc (c : Thread nD τ))) (fi : Buf (Elt F) ((islot j).view.loc (c : Thread nD τ))) :
    (Transfers.Flight countersEmb (c : Thread nD τ) (SemLoc.dma (osem j).sem) () 128000
        iprop(((och g j).view.loc (c : Thread nD τ) ↦[(och g j).view.set]{fullShare}
            (och g j).view.writes (Elt F) O [⟨Rect.whole S8000x128, ReadAs.same.apply ((oslot j).view.read (Elt F)
              ((outM.access (Rect.unit (s := S4x8000x128) (slotOff j) S1x8000x128.size (outOff_inb j))).write (Elt F) f
                (k0_pay1 (inM.view.readAt (Elt F) (Rect.unit (s := S4x8000x16) (slotOff j) S1x8000x16.size (inOff_inb j)).toLoadRect
                  (landed c X g j fi)) wt bs) Finset.univ))⟩])
          ∗ oslotP c j f') : sProp 𝕄)
      ⊢ iprop(∃ f, oflight c (result c X wt bs) g j f) := by
  iintro H
  iexists f'
  iapply (entails_of_eq (oflight_sent c X wt bs O g j f f' _ (congrArg (k0_pay1 · wt bs) (loaded_eq c X g j fi))))
  iexact H

end Cert.Proof.Ring4

end
-- ==== Proof.Trip.lean ====
/-
  One trip of the loop.

  Trip `k` handles group `k`: for each of its four chunks it waits for the chunk to land in its slot, waits (from the
  second trip on) for the slot's copy out of the trip before, computes the product, sends it out, and asks (before the
  last trip) for the chunk of group `k + 1`. The first trip, the trips between and the last one are stated apart.
-/
module

public import proofs.«01_k».proof.Proof.Pieces

@[expose] public section

noncomputable section

namespace Cert.Proof.Ring4

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (X : XBuf F c) (O : OBuf F c)
  (arg1 : Memref sig .tc .vmem S16x128 .bf16) (harg1 : arg1.IsWhole)
  (arg2 : Memref sig .tc .vmem S1x128 .f32) (harg2 : arg2.IsWhole)
  (gw : Buf (Elt F) (arg1.view.loc (c : Thread nD τ))) (gb : Buf (Elt F) (arg2.view.loc (c : Thread nD τ)))

/-- The weights as the body loads them. -/
abbrev wtOf : Vec F S16x128 .bf16 :=
  arg1.view.readAt (Elt F) (Rect.unit (s := S16x128) ![0, 0] S16x128.size inb_S16x128_S16x128_0_0).toLoadRect gw
/-- The bias as the body loads it. -/
abbrev bsOf : Vec F S1x128 .f32 :=
  arg2.view.readAt (Elt F) (Rect.unit (s := S1x128) ![0, 0] S1x128.size inb_S1x128_S1x128_0_0).toLoadRect gb
/-- The result for the weights and the bias held. -/
abbrev resOf : OBuf F c := result c X (wtOf c arg1 gw) (bsOf c arg2 gb)
/-- The weights' and the bias's buffers, held as they were staged. -/
abbrev wbP : sProp 𝕄 := iprop((arg1.view.loc (c : Thread nD τ) ↦[arg1.view.set]{fullShare} gw) ∗ (arg2.view.loc (c : Thread nD τ) ↦[arg2.view.set]{fullShare} gb))

/-- Trip `k` of the loop, on the kernel's own arrays, slots and semaphores. -/
abbrev trip (k : Fin k0_t1_loop.trips) : Prog (TpuEff nD τ sig (Elt F) Λ₀ .tc) Unit :=
  k0_t1_body (F := F) xM (Memref.isWhole_whole _) arg1 harg1 arg2 harg2 oM (Memref.isWhole_whole _) inM (Memref.isWhole_whole _) outM (Memref.isWhole_whole _) cc0_scratch2 cc0_scratch3 k ()

set_option backward.proofsInPublic true in
/-- A trip between the first and the last: group `k` of `x` and group `k - 1` of the result in flight before it, group
    `k + 1` of `x` and group `k` of the result after it. -/
theorem midTrip (k : Fin k0_t1_loop.trips) (h1 : 1 ≤ k.val) (h2 : k.val < 49) (W : Waits sig Unit) :
    iprop(wbP c arg1 arg2 gw gb ∗ owes (c : Thread nD τ) 0 W
      ∗ incoming c X (Ring.bk 50 k.val) ∗ outgoing c (resOf c X arg1 arg2 gw gb) (Ring.bk 50 (k.val - 1))
      ∗ xG c X (Ring.bk 50 (k.val + 1)) ∗ oG c O (Ring.bk 50 k.val))
    ⊢ wp frame (wpE (defs₀ (F := F)) 𝒱₀ (c : Thread nD τ) none) Set.univ (trip arg1 harg1 arg2 harg2 k) (fun _ =>
      iprop(wbP c arg1 arg2 gw gb ∗ (∃ W, owes (c : Thread nD τ) 0 W)
        ∗ incoming c X (Ring.bk 50 (k.val + 1)) ∗ outgoing c (resOf c X arg1 arg2 gw gb) (Ring.bk 50 k.val)
        ∗ xG c X (Ring.bk 50 k.val) ∗ oG c (resOf c X arg1 arg2 gw gb) (Ring.bk 50 (k.val - 1)))) := by
  obtain ⟨hc1, hc3, hc5, hc7⟩ := later k h1
  obtain ⟨hc2, hc4, hc6, hc8⟩ := early k h2
  iintro ⟨⟨Hw, Hb⟩, HW, ⟨⟨%f0, HI0⟩, ⟨%f1, HI1⟩, ⟨%f2, HI2⟩, ⟨%f3, HI3⟩⟩, ⟨⟨%g0, HO0⟩, ⟨%g1, HO1⟩, ⟨%g2, HO2⟩, ⟨%g3, HO3⟩⟩, ⟨Hx0, Hx1, Hx2, Hx3⟩, ⟨Ho0, Ho1, Ho2, Ho3⟩⟩
  dsimp only [trip]
  sl_unfold [k0_t1_body]
  sl_exec
  sl_step
  isplitl [Hw Hb]; · isplitl [Hw] <;> iassumption
  isplitl [HW]; · iexists _; iexact HW
  isplitl [HI0 HI1 HI2 HI3]
  · isplitl [HI0]; · iapply (again c X (Ring.bk 50 k.val) (Ring.bk 50 (k.val + 1)) 0); iexact HI0
    isplitl [HI1]; · iapply (again c X (Ring.bk 50 k.val) (Ring.bk 50 (k.val + 1)) 1); iexact HI1
    isplitl [HI2]; · iapply (again c X (Ring.bk 50 k.val) (Ring.bk 50 (k.val + 1)) 2); iexact HI2
    iapply (again c X (Ring.bk 50 k.val) (Ring.bk 50 (k.val + 1)) 3); iexact HI3
  isplitl [HO0 HO1 HO2 HO3]
  · isplitl [HO0]; · iapply (sent c X (wtOf c arg1 gw) (bsOf c arg2 gb) O (Ring.bk 50 k.val) 0 g0 _ _); iexact HO0
    isplitl [HO1]; · iapply (sent c X (wtOf c arg1 gw) (bsOf c arg2 gb) O (Ring.bk 50 k.val) 1 g1 _ _); iexact HO1
    isplitl [HO2]; · iapply (sent c X (wtOf c arg1 gw) (bsOf c arg2 gb) O (Ring.bk 50 k.val) 2 g2 _ _); iexact HO2
    iapply (sent c X (wtOf c arg1 gw) (bsOf c arg2 gb) O (Ring.bk 50 k.val) 3 g3 _ _); iexact HO3
  isplitl [HI0_src HI1_src HI2_src HI3_src]
  · isplitl [HI0_src]; · iexact HI0_src
    isplitl [HI1_src]; · iexact HI1_src
    isplitl [HI2_src]; · iexact HI2_src
    iexact HI3_src
  isplitl [HO0_dst]; · iexact HO0_dst
  isplitl [HO1_dst]; · iexact HO1_dst
  isplitl [HO2_dst]; · iexact HO2_dst
  iexact HO3_dst

set_option backward.proofsInPublic true in
/-- The first trip: no copy of the result is in flight before it. -/
theorem firstTrip (k : Fin k0_t1_loop.trips) (h0 : k.val = 0) (W : Waits sig Unit) :
    iprop(wbP c arg1 arg2 gw gb ∗ owes (c : Thread nD τ) 0 W
      ∗ incoming c X (Ring.bk 50 k.val) ∗ outIdle c
      ∗ xG c X (Ring.bk 50 (k.val + 1)) ∗ oG c O (Ring.bk 50 k.val))
    ⊢ wp frame (wpE (defs₀ (F := F)) 𝒱₀ (c : Thread nD τ) none) Set.univ (trip arg1 harg1 arg2 harg2 k) (fun _ =>
      iprop(wbP c arg1 arg2 gw gb ∗ (∃ W, owes (c : Thread nD τ) 0 W)
        ∗ incoming c X (Ring.bk 50 (k.val + 1)) ∗ outgoing c (resOf c X arg1 arg2 gw gb) (Ring.bk 50 k.val)
        ∗ xG c X (Ring.bk 50 k.val))) := by
  have h2 : k.val < 49 := by omega
  obtain ⟨hc1, hc3, hc5, hc7⟩ := first k h0
  obtain ⟨hc2, hc4, hc6, hc8⟩ := early k h2
  iintro ⟨⟨Hw, Hb⟩, HW, ⟨⟨%f0, HI0⟩, ⟨%f1, HI1⟩, ⟨%f2, HI2⟩, ⟨%f3, HI3⟩⟩, ⟨⟨⟨%g0, HS0⟩, HO0⟩, ⟨⟨%g1, HS1⟩, HO1⟩, ⟨⟨%g2, HS2⟩, HO2⟩, ⟨⟨%g3, HS3⟩, HO3⟩⟩, ⟨Hx0, Hx1, Hx2, Hx3⟩, ⟨Ho0, Ho1, Ho2, Ho3⟩⟩
  dsimp only [trip]
  sl_unfold [k0_t1_body]
  sl_exec
  sl_step
  isplitl [Hw Hb]; · isplitl [Hw] <;> iassumption
  isplitl [HW]; · iexists _; iexact HW
  isplitl [HI0 HI1 HI2 HI3]
  · isplitl [HI0]; · iapply (again c X (Ring.bk 50 k.val) (Ring.bk 50 (k.val + 1)) 0); iexact HI0
    isplitl [HI1]; · iapply (again c X (Ring.bk 50 k.val) (Ring.bk 50 (k.val + 1)) 1); iexact HI1
    isplitl [HI2]; · iapply (again c X (Ring.bk 50 k.val) (Ring.bk 50 (k.val + 1)) 2); iexact HI2
    iapply (again c X (Ring.bk 50 k.val) (Ring.bk 50 (k.val + 1)) 3); iexact HI3
  isplitl [HO0 HO1 HO2 HO3]
  · isplitl [HO0]; · iapply (sent c X (wtOf c arg1 gw) (bsOf c arg2 gb) O (Ring.bk 50 k.val) 0 g0 _ _); iexact HO0
    isplitl [HO1]; · iapply (sent c X (wtOf c arg1 gw) (bsOf c arg2 gb) O (Ring.bk 50 k.val) 1 g1 _ _); iexact HO1
    isplitl [HO2]; · iapply (sent c X (wtOf c arg1 gw) (bsOf c arg2 gb) O (Ring.bk 50 k.val) 2 g2 _ _); iexact HO2
    iapply (sent c X (wtOf c arg1 gw) (bsOf c arg2 gb) O (Ring.bk 50 k.val) 3 g3 _ _); iexact HO3
  isplitl [HI0_src]; · iexact HI0_src
  isplitl [HI1_src]; · iexact HI1_src
  isplitl [HI2_src]; · iexact HI2_src
  iexact HI3_src

set_option backward.proofsInPublic true in
/-- The last trip: it asks for no further chunk of `x`. -/
theorem lastTrip (k : Fin k0_t1_loop.trips) (h9 : k.val = 49) (W : Waits sig Unit) :
    iprop(wbP c arg1 arg2 gw gb ∗ owes (c : Thread nD τ) 0 W
      ∗ incoming c X (Ring.bk 50 k.val) ∗ outgoing c (resOf c X arg1 arg2 gw gb) (Ring.bk 50 (k.val - 1))
      ∗ oG c O (Ring.bk 50 k.val))
    ⊢ wp frame (wpE (defs₀ (F := F)) 𝒱₀ (c : Thread nD τ) none) Set.univ (trip arg1 harg1 arg2 harg2 k) (fun _ =>
      iprop(wbP c arg1 arg2 gw gb ∗ (∃ W, owes (c : Thread nD τ) 0 W)
        ∗ inIdle c ∗ outgoing c (resOf c X arg1 arg2 gw gb) (Ring.bk 50 k.val)
        ∗ xG c X (Ring.bk 50 k.val) ∗ oG c (resOf c X arg1 arg2 gw gb) (Ring.bk 50 (k.val - 1)))) := by
  have h1 : 1 ≤ k.val := by omega
  obtain ⟨hc1, hc3, hc5, hc7⟩ := later k h1
  obtain ⟨hc2, hc4, hc6, hc8⟩ := last k h9
  iintro ⟨⟨Hw, Hb⟩, HW, ⟨⟨%f0, HI0⟩, ⟨%f1, HI1⟩, ⟨%f2, HI2⟩, ⟨%f3, HI3⟩⟩, ⟨⟨%g0, HO0⟩, ⟨%g1, HO1⟩, ⟨%g2, HO2⟩, ⟨%g3, HO3⟩⟩, ⟨Ho0, Ho1, Ho2, Ho3⟩⟩
  dsimp only [trip]
  sl_unfold [k0_t1_body]
  sl_exec
  sl_step
  isplitl [Hw Hb]; · isplitl [Hw] <;> iassumption
  isplitl [HW]; · iexists _; iexact HW
  isplitl [HI0 HI0_dst HI1 HI1_dst HI2 HI2_dst HI3 HI3_dst]
  · isplitl [HI0 HI0_dst]; · isplitl [HI0_dst]; · { iexists _; iexact HI0_dst }
                             iexact HI0
    isplitl [HI1 HI1_dst]; · isplitl [HI1_dst]; · { iexists _; iexact HI1_dst }
                             iexact HI1
    isplitl [HI2 HI2_dst]; · isplitl [HI2_dst]; · { iexists _; iexact HI2_dst }
                             iexact HI2
    isplitl [HI3_dst]; · { iexists _; iexact HI3_dst }
    iexact HI3
  isplitl [HO0 HO1 HO2 HO3]
  · isplitl [HO0]; · iapply (sent c X (wtOf c arg1 gw) (bsOf c arg2 gb) O (Ring.bk 50 k.val) 0 g0 _ _); iexact HO0
    isplitl [HO1]; · iapply (sent c X (wtOf c arg1 gw) (bsOf c arg2 gb) O (Ring.bk 50 k.val) 1 g1 _ _); iexact HO1
    isplitl [HO2]; · iapply (sent c X (wtOf c arg1 gw) (bsOf c arg2 gb) O (Ring.bk 50 k.val) 2 g2 _ _); iexact HO2
    iapply (sent c X (wtOf c arg1 gw) (bsOf c arg2 gb) O (Ring.bk 50 k.val) 3 g3 _ _); iexact HO3
  isplitl [HI0_src HI1_src HI2_src HI3_src]
  · isplitl [HI0_src]; · iexact HI0_src
    isplitl [HI1_src]; · iexact HI1_src
    isplitl [HI2_src]; · iexact HI2_src
    iexact HI3_src
  isplitl [HO0_dst]; · iexact HO0_dst
  isplitl [HO1_dst]; · iexact HO1_dst
  isplitl [HO2_dst]; · iexact HO2_dst
  iexact HO3_dst

end Cert.Proof.Ring4

end
-- ==== Proof.Loop.lean ====
/-
  The loop.

  Before trip `k` the groups of `x` before `k` are back in place, group `k` is on its way in, the later ones are in
  place; the groups of the result before `k - 1` are final, group `k - 1` is on its way out, and the groups from `k` on
  are untouched. Each trip takes this from `k` to `k + 1`.
-/
module

public import proofs.«01_k».proof.Proof.Trip

@[expose] public section

noncomputable section

namespace Cert.Proof.Ring4

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The groups from `lo` to before `hi`, each holding `P`. -/
abbrev groups (lo hi : ℕ) (P : Fin 50 → sProp 𝕄) : sProp 𝕄 := bigSep (Ring.rangeSet 50 lo hi) P

omit [FloatOps F] in
/-- The groups from `lo` on are group `lo` and those from `lo + 1` on. -/
theorem groups_head (P : Fin 50 → sProp 𝕄) (lo : ℕ) (h : lo < 50) :
    groups lo 50 P = iprop(P (Ring.bk 50 lo) ∗ groups (lo + 1) 50 P) := by
  rw [show Ring.bk 50 lo = ⟨lo, h⟩ from Fin.ext (Ring.bk_val h)]
  exact Ring.bigSep_rangeSet_head h h

omit [FloatOps F] in
/-- The groups up to `hi` are group `hi` and those before it. -/
theorem groups_last (P : Fin 50 → sProp 𝕄) (hi : ℕ) (h : hi < 50) :
    groups 0 (hi + 1) P = iprop(P (Ring.bk 50 hi) ∗ groups 0 hi P) := by
  rw [show Ring.bk 50 hi = ⟨hi, h⟩ from Fin.ext (Ring.bk_val h)]
  exact Ring.bigSep_rangeSet_last (by omega) (by omega)

omit [FloatOps F] in
/-- All groups, from the first to the last. -/
theorem groups_all (P : Fin 50 → sProp 𝕄) : groups 0 50 P = bigSep Finset.univ P := by
  unfold groups; rw [Ring.rangeSet_univ]

omit [FloatOps F] in
/-- An empty range of groups takes nothing. -/
theorem groups_none (P : Fin 50 → sProp 𝕄) (lo hi : ℕ) (h : hi ≤ lo) : groups lo hi P = (iprop(emp) : sProp 𝕄) :=
  Ring.bigSep_rangeSet_empty h

variable (c : Dev nD) (X : XBuf F c) (O : OBuf F c)
  (arg1 : Memref sig .tc .vmem S16x128 .bf16) (harg1 : arg1.IsWhole)
  (arg2 : Memref sig .tc .vmem S1x128 .f32) (harg2 : arg2.IsWhole)
  (gw : Buf (Elt F) (arg1.view.loc (c : Thread nD τ))) (gb : Buf (Elt F) (arg2.view.loc (c : Thread nD τ)))

/-- What is on its way in before trip `k`; after the last trip the slots are idle. -/
def inAt (k : ℕ) : sProp 𝕄 := if k < 50 then incoming c X (Ring.bk 50 k) else inIdle c
/-- What is on its way out before trip `k`; before the first trip the slots are idle. -/
def outAt (G : OBuf F c) (k : ℕ) : sProp 𝕄 := if k = 0 then outIdle c else outgoing c G (Ring.bk 50 (k - 1))

theorem inAt_lt (k : ℕ) (h : k < 50) : inAt c X k = incoming c X (Ring.bk 50 k) := if_pos h
theorem inAt_end : inAt c X 50 = inIdle c := if_neg (by decide)
theorem outAt_zero (G : OBuf F c) : outAt c G 0 = outIdle c := if_pos rfl
theorem outAt_pos (G : OBuf F c) (k : ℕ) (h : 1 ≤ k) : outAt c G k = outgoing c G (Ring.bk 50 (k - 1)) := if_neg (by omega)

/-- What the core holds before trip `k`. -/
abbrev invAt (k : ℕ) : sProp 𝕄 :=
  iprop(wbP c arg1 arg2 gw gb ∗ (∃ W, owes (c : Thread nD τ) 0 W)
    ∗ inAt c X k ∗ outAt c (resOf c X arg1 arg2 gw gb) k
    ∗ groups 0 k (xG c X) ∗ groups (k + 1) 50 (xG c X)
    ∗ groups 0 (k - 1) (oG c (resOf c X arg1 arg2 gw gb)) ∗ groups k 50 (oG c O))

/-- The first trip, at the loop's invariant. -/
theorem step_first (k : Fin k0_t1_loop.trips) (h0 : k.val = 0) :
    invAt c X O arg1 arg2 gw gb k.val
    ⊢ wp frame (wpE (defs₀ (F := F)) 𝒱₀ (c : Thread nD τ) none) Set.univ (trip arg1 harg1 arg2 harg2 k)
        (fun _ => invAt c X O arg1 arg2 gw gb (k.val + 1)) := by
  have hO : outAt c (resOf c X arg1 arg2 gw gb) k.val = outIdle c := by rw [h0]; exact outAt_zero c _
  unfold invAt
  rw [inAt_lt c X k.val (by omega), inAt_lt c X (k.val + 1) (by omega), hO, outAt_pos c _ (k.val + 1) (by omega),
    groups_head (xG c X) (k.val + 1) (by omega), groups_head (oG c O) k.val (by omega), groups_last (xG c X) k.val (by omega),
    Nat.add_sub_cancel, groups_none (oG c _) 0 (k.val - 1) (by omega), groups_none (oG c _) 0 k.val (by omega)]
  iintro ⟨Hwb, ⟨%W, HW⟩, Hi, Ho, Hxd, ⟨Hx, Hxa⟩, Hod, ⟨Hoc, Hoa⟩⟩
  iapply (wp_wand_r Idealize.ShloMosaic.frame (wpE (defs₀ (F := F)) 𝒱₀ (c : Thread nD τ) none) Set.univ)
  isplitl [Hwb HW Hi Ho Hx Hoc]
  · iapply (firstTrip c X O arg1 harg1 arg2 harg2 gw gb k h0 W)
    isplitl [Hwb]; · iexact Hwb
    isplitl [HW]; · iexact HW
    isplitl [Hi]; · iexact Hi
    isplitl [Ho]; · iexact Ho
    isplitl [Hx]; · iexact Hx
    iexact Hoc
  · iintro %_ ⟨Hwb, HW, Hi, Ho, Hx⟩
    isplitl [Hwb]; · iexact Hwb
    isplitl [HW]; · iexact HW
    isplitl [Hi]; · iexact Hi
    isplitl [Ho]; · iexact Ho
    isplitl [Hx Hxd]
    · isplitl [Hx]; · iexact Hx
      iexact Hxd
    isplitl [Hxa]; · iexact Hxa
    isplitl [Hod]; · iexact Hod
    iexact Hoa

/-- A trip between the first and the last, at the loop's invariant. -/
theorem step_mid (k : Fin k0_t1_loop.trips) (h1 : 1 ≤ k.val) (h2 : k.val < 49) :
    invAt c X O arg1 arg2 gw gb k.val
    ⊢ wp frame (wpE (defs₀ (F := F)) 𝒱₀ (c : Thread nD τ) none) Set.univ (trip arg1 harg1 arg2 harg2 k)
        (fun _ => invAt c X O arg1 arg2 gw gb (k.val + 1)) := by
  have hD := groups_last (oG c (resOf c X arg1 arg2 gw gb)) (k.val - 1) (by omega)
  rw [Nat.sub_add_cancel h1] at hD
  unfold invAt
  rw [inAt_lt c X k.val (by omega), inAt_lt c X (k.val + 1) (by omega), outAt_pos c _ k.val h1, outAt_pos c _ (k.val + 1) (by omega),
    groups_head (xG c X) (k.val + 1) (by omega), groups_head (oG c O) k.val (by omega), groups_last (xG c X) k.val (by omega),
    Nat.add_sub_cancel, hD]
  iintro ⟨Hwb, ⟨%W, HW⟩, Hi, Ho, Hxd, ⟨Hx, Hxa⟩, Hod, ⟨Hoc, Hoa⟩⟩
  iapply (wp_wand_r Idealize.ShloMosaic.frame (wpE (defs₀ (F := F)) 𝒱₀ (c : Thread nD τ) none) Set.univ)
  isplitl [Hwb HW Hi Ho Hx Hoc]
  · iapply (midTrip c X O arg1 harg1 arg2 harg2 gw gb k h1 h2 W)
    isplitl [Hwb]; · iexact Hwb
    isplitl [HW]; · iexact HW
    isplitl [Hi]; · iexact Hi
    isplitl [Ho]; · iexact Ho
    isplitl [Hx]; · iexact Hx
    iexact Hoc
  · iintro %_ ⟨Hwb, HW, Hi, Ho, Hx, Hor⟩
    isplitl [Hwb]; · iexact Hwb
    isplitl [HW]; · iexact HW
    isplitl [Hi]; · iexact Hi
    isplitl [Ho]; · iexact Ho
    isplitl [Hx Hxd]
    · isplitl [Hx]; · iexact Hx
      iexact Hxd
    isplitl [Hxa]; · iexact Hxa
    isplitl [Hor Hod]
    · isplitl [Hor]; · iexact Hor
      iexact Hod
    iexact Hoa

/-- The last trip, at the loop's invariant. -/
theorem step_last (k : Fin k0_t1_loop.trips) (h9 : k.val = 49) :
    invAt c X O arg1 arg2 gw gb k.val
    ⊢ wp frame (wpE (defs₀ (F := F)) 𝒱₀ (c : Thread nD τ) none) Set.univ (trip arg1 harg1 arg2 harg2 k)
        (fun _ => invAt c X O arg1 arg2 gw gb (k.val + 1)) := by
  have hD := groups_last (oG c (resOf c X arg1 arg2 gw gb)) (k.val - 1) (by omega)
  rw [Nat.sub_add_cancel (by omega : 1 ≤ k.val)] at hD
  have hI : inAt c X (k.val + 1) = inIdle c := by rw [h9]; exact inAt_end c X
  unfold invAt
  rw [inAt_lt c X k.val (by omega), hI, outAt_pos c _ k.val (by omega), outAt_pos c _ (k.val + 1) (by omega),
    groups_none (xG c X) (k.val + 1) 50 (by omega), groups_none (xG c X) (k.val + 1 + 1) 50 (by omega),
    groups_head (oG c O) k.val (by omega), groups_last (xG c X) k.val (by omega), Nat.add_sub_cancel, hD]
  iintro ⟨Hwb, ⟨%W, HW⟩, Hi, Ho, Hxd, Hxa, Hod, ⟨Hoc, Hoa⟩⟩
  iapply (wp_wand_r Idealize.ShloMosaic.frame (wpE (defs₀ (F := F)) 𝒱₀ (c : Thread nD τ) none) Set.univ)
  isplitl [Hwb HW Hi Ho Hoc]
  · iapply (lastTrip c X O arg1 harg1 arg2 harg2 gw gb k h9 W)
    isplitl [Hwb]; · iexact Hwb
    isplitl [HW]; · iexact HW
    isplitl [Hi]; · iexact Hi
    isplitl [Ho]; · iexact Ho
    iexact Hoc
  · iintro %_ ⟨Hwb, HW, Hi, Ho, Hx, Hor⟩
    isplitl [Hwb]; · iexact Hwb
    isplitl [HW]; · iexact HW
    isplitl [Hi]; · iexact Hi
    isplitl [Ho]; · iexact Ho
    isplitl [Hx Hxd]
    · isplitl [Hx]; · iexact Hx
      iexact Hxd
    isplitl [Hxa]; · iexact Hxa
    isplitl [Hor Hod]
    · isplitl [Hor]; · iexact Hor
      iexact Hod
    iexact Hoa

/-- Every trip keeps the loop's invariant. -/
theorem step_any (k : Fin k0_t1_loop.trips) :
    invAt c X O arg1 arg2 gw gb k.val
    ⊢ wp frame (wpE (defs₀ (F := F)) 𝒱₀ (c : Thread nD τ) none) Set.univ (trip arg1 harg1 arg2 harg2 k)
        (fun _ => invAt c X O arg1 arg2 gw gb (k.val + 1)) := by
  have hk := trip_lt k
  rcases Nat.eq_zero_or_pos k.val with h0 | h1
  · exact step_first c X O arg1 harg1 arg2 harg2 gw gb k h0
  · rcases Nat.lt_or_ge k.val 49 with h2 | h9
    · exact step_mid c X O arg1 harg1 arg2 harg2 gw gb k h1 h2
    · exact step_last c X O arg1 harg1 arg2 harg2 gw gb k (by omega)

end Cert.Proof.Ring4

end
-- ==== Proof.Body.lean ====
/-
  The kernel body: the four first transfers in, the loop, the four last transfers out.

  Started with every chunk of `x` and of the result in place and every slot idle, it ends with the same, the result now
  holding `x · wt + bias` chunk by chunk.
-/
module

public import proofs.«01_k».proof.Proof.Loop

@[expose] public section

noncomputable section

namespace Cert.Proof.Ring4

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (X : XBuf F c) (O : OBuf F c)
  (arg1 : Memref sig .tc .vmem S16x128 .bf16) (harg1 : arg1.IsWhole)
  (arg2 : Memref sig .tc .vmem S1x128 .f32) (harg2 : arg2.IsWhole)
  (gw : Buf (Elt F) (arg1.view.loc (c : Thread nD τ))) (gb : Buf (Elt F) (arg2.view.loc (c : Thread nD τ)))

/-- The body, on the kernel's own arrays, slots and semaphores. -/
abbrev body : Prog (TpuEff nD τ sig (Elt F) Λ₀ .tc) PUnit :=
  cc0__body (F := F) xM (Memref.isWhole_whole _) arg1 harg1 arg2 harg2 oM (Memref.isWhole_whole _) inM (Memref.isWhole_whole _) outM (Memref.isWhole_whole _) cc0_scratch2 cc0_scratch3

/-- What the body works on: the arrays' chunks, the result's holding `O`, and the slots idle. -/
abbrev held (O : OBuf F c) : sProp 𝕄 :=
  iprop(bigSep Finset.univ (xG c X) ∗ bigSep Finset.univ (oG c O) ∗ inIdle c ∗ outIdle c)

/-- Before the first trip: the first group of `x` on its way in, the rest in place. -/
theorem inv_start :
    iprop(wbP c arg1 arg2 gw gb ∗ (∃ W, owes (c : Thread nD τ) 0 W) ∗ incoming c X (Ring.bk 50 0) ∗ outIdle c
      ∗ groups (0 + 1) 50 (xG c X) ∗ bigSep Finset.univ (oG c O))
    ⊢ invAt c X O arg1 arg2 gw gb 0 := by
  unfold invAt
  rw [inAt_lt c X 0 (by decide), outAt_zero, groups_none (xG c X) 0 0 (by decide), groups_none (oG c _) 0 (0 - 1) (by decide),
    ← groups_all (oG c O)]
  iintro ⟨Hwb, HW, Hi, Ho, Hx, Hoa⟩
  isplitl [Hwb]; · iexact Hwb
  isplitl [HW]; · iexact HW
  isplitl [Hi]; · iexact Hi
  isplitl [Ho]; · iexact Ho
  isplitr; · iempintro
  isplitl [Hx]; · iexact Hx
  isplitr; · iempintro
  iexact Hoa

/-- After the last trip: `x` back in place, the last group of the result on its way out, the rest final. -/
theorem inv_end (n : ℕ) (hn : n = 50) :
    invAt c X O arg1 arg2 gw gb n
    ⊢ iprop(wbP c arg1 arg2 gw gb ∗ (∃ W, owes (c : Thread nD τ) 0 W) ∗ inIdle c
      ∗ outgoing c (resOf c X arg1 arg2 gw gb) (Ring.bk 50 49)
      ∗ bigSep Finset.univ (xG c X) ∗ groups 0 49 (oG c (resOf c X arg1 arg2 gw gb))) := by
  subst hn
  unfold invAt
  rw [inAt_end c X, outAt_pos c _ 50 (by decide), groups_all (xG c X)]
  iintro ⟨Hwb, HW, Hi, Ho, Hx, -, Hod, -⟩
  isplitl [Hwb]; · iexact Hwb
  isplitl [HW]; · iexact HW
  isplitl [Hi]; · iexact Hi
  isplitl [Ho]; · iexact Ho
  isplitl [Hx]; · iexact Hx
  iexact Hod

set_option backward.proofsInPublic true in
/-- The body takes the result's chunks from anything to `result`, and leaves the rest as it was. -/
theorem bodyRun (W : Waits sig Unit) (Q : PUnit → sProp 𝕄) :
    iprop(wbP c arg1 arg2 gw gb ∗ held c X O ∗ owes (c : Thread nD τ) 0 W
      ∗ (wbP c arg1 arg2 gw gb ∗ held c X (resOf c X arg1 arg2 gw gb) ∗ (∃ W, owes (c : Thread nD τ) 0 W) -∗ Q ⟨⟩))
    ⊢ wp frame (wpE (defs₀ (F := F)) 𝒱₀ (c : Thread nD τ) none) Set.univ (body arg1 harg1 arg2 harg2) Q := by
  iintro ⟨Hwb, ⟨Hx, Hoa, ⟨⟨⟨%f0, HS0⟩, HI0⟩, ⟨⟨%f1, HS1⟩, HI1⟩, ⟨⟨%f2, HS2⟩, HI2⟩, ⟨⟨%f3, HS3⟩, HI3⟩⟩, Hout⟩, HW, Hk⟩
  ihave Hx' := (entails_of_eq ((groups_all (xG c X)).symm.trans (groups_head (xG c X) 0 (by decide)))) $$ Hx
  icases Hx' with ⟨⟨Hx0, Hx1, Hx2, Hx3⟩, Hxa⟩
  dsimp only [body]
  sl_unfold [cc0__body, k0_part5]
  sl_exec
  sl_for (fun k _ => invAt c X O arg1 arg2 gw gb k) $$ [Hwb HW HI0 HI1 HI2 HI3 Hout Hxa Hoa]
  · intro k acc
    exact step_any c X O arg1 harg1 arg2 harg2 gw gb k
  · iapply (inv_start c X O arg1 arg2 gw gb)
    isplitl [Hwb]; · iexact Hwb
    isplitl [HW]; · iexists _; iexact HW
    isplitl [HI0 HI1 HI2 HI3]
    · isplitl [HI0]; · iexists f0; iexact HI0
      isplitl [HI1]; · iexists f1; iexact HI1
      isplitl [HI2]; · iexists f2; iexact HI2
      iexists f3; iexact HI3
    isplitl [Hout]; · iexact Hout
    isplitl [Hxa]; · iexact Hxa
    iexact Hoa
  iintro %_ HI
  ihave HE := (inv_end c X O arg1 arg2 gw gb _ trips_eq) $$ HI
  icases HE with ⟨Hwb, ⟨%W', HW⟩, Hi, ⟨⟨%g0, HO0⟩, ⟨%g1, HO1⟩, ⟨%g2, HO2⟩, ⟨%g3, HO3⟩⟩, Hx, Hod⟩
  sl_exec
  sl_step
  iapply Hk
  isplitl [Hwb]; · iexact Hwb
  isplitr [HW]
  · isplitl [Hx]; · iexact Hx
    isplitl [Hod HO0_dst HO1_dst HO2_dst HO3_dst]
    · iapply (entails_of_eq ((groups_all (oG c (resOf c X arg1 arg2 gw gb))).symm.trans (groups_last _ 49 (by decide))).symm)
      isplitr [Hod]
      · isplitl [HO0_dst]; · iexact HO0_dst
        isplitl [HO1_dst]; · iexact HO1_dst
        isplitl [HO2_dst]; · iexact HO2_dst
        iexact HO3_dst
      · iexact Hod
    isplitl [Hi]; · iexact Hi
    isplitl [HO0 HO0_src]; · isplitl [HO0_src]; · { iexists _; iexact HO0_src }
                             iexact HO0
    isplitl [HO1 HO1_src]; · isplitl [HO1_src]; · { iexists _; iexact HO1_src }
                             iexact HO1
    isplitl [HO2 HO2_src]; · isplitl [HO2_src]; · { iexists _; iexact HO2_src }
                             iexact HO2
    isplitl [HO3_src]; · { iexists _; iexact HO3_src }
    iexact HO3
  · iexists _; iexact HW

end Cert.Proof.Ring4

end
-- ==== Proof.Blocks.lean ====
/-
  The arrays chunk by chunk, the slot buffers slot by slot.

  The 200 chunks partition the rows of `x` and of the result, and the four slots partition each slot buffer; so an array
  held whole is its chunks held one by one, and a slot buffer held whole is its slots held one by one, and back.
-/
module

public import proofs.«01_k».proof.Proof.Body
public import Idealize.ShloMosaic.Lib.Ring

@[expose] public section

noncomputable section

namespace Cert.Proof.Ring4

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Sets of rows -/

section Rows

variable {s : Shape} (I : Fin 50 × Fin 4 → Finset s.Idx) (row : s.Idx → ℕ)
  (hI : ∀ p y, y ∈ I p ↔ 32000 * p.1.val + 8000 * p.2.val ≤ row y ∧ row y < 32000 * p.1.val + 8000 * p.2.val + 8000)

include hI in
/-- Two different chunks share no row. -/
theorem chunks_disjoint (p p' : Fin 50 × Fin 4) (h : p ≠ p') : Disjoint (I p) (I p') := by
  rw [Finset.disjoint_left]
  intro y hy hy'
  rw [hI] at hy hy'
  refine h (Prod.ext (Fin.ext ?_) (Fin.ext ?_)) <;> omega

include hI in
/-- Every row is in a chunk. -/
theorem chunks_cover (hr : ∀ y, row y < 1600000) : Finset.univ.biUnion I = Finset.univ := by
  ext y
  simp only [Finset.mem_biUnion, Finset.mem_univ, true_and, iff_true]
  have := hr y
  refine ⟨(⟨row y / 32000, by omega⟩, ⟨row y % 32000 / 8000, by omega⟩), (hI _ y).mpr ?_⟩
  dsimp only
  omega

end Rows

/-- The places of `x` in chunk `j` of group `g`. -/
abbrev xSet (p : Fin 50 × Fin 4) : Finset S1600000x16.Idx := (Rect.unit (s := S1600000x16) (chunkOff p.1 p.2) S8000x16.size (xOff_inb p.1 p.2)).set
/-- The places of the result in chunk `j` of group `g`. -/
abbrev oSet (p : Fin 50 × Fin 4) : Finset S1600000x128.Idx := (Rect.unit (s := S1600000x128) (chunkOff p.1 p.2) S8000x128.size (oOff_inb p.1 p.2)).set
/-- The places of the input slots in slot `j`. -/
abbrev inSet (j : Fin 4) : Finset S4x8000x16.Idx := (Rect.unit (s := S4x8000x16) (slotOff j) S1x8000x16.size (inOff_inb j)).set
/-- The places of the output slots in slot `j`. -/
abbrev outSet (j : Fin 4) : Finset S4x8000x128.Idx := (Rect.unit (s := S4x8000x128) (slotOff j) S1x8000x128.size (outOff_inb j)).set

/-- A place of `x` is in a chunk when its row is. -/
theorem mem_xSet (p : Fin 50 × Fin 4) (y : S1600000x16.Idx) :
    y ∈ xSet p ↔ 32000 * p.1.val + 8000 * p.2.val ≤ (y 0).val ∧ (y 0).val < 32000 * p.1.val + 8000 * p.2.val + 8000 := by
  rw [Rect.mem_set_unit]
  have h1 : (y 1).val < 16 := (y 1).isLt
  constructor
  · intro H; exact H 0
  · intro H i; fin_cases i
    · exact H
    · exact ⟨Nat.zero_le _, by show (y 1).val < 0 + 16; omega⟩

/-- A place of the result is in a chunk when its row is. -/
theorem mem_oSet (p : Fin 50 × Fin 4) (y : S1600000x128.Idx) :
    y ∈ oSet p ↔ 32000 * p.1.val + 8000 * p.2.val ≤ (y 0).val ∧ (y 0).val < 32000 * p.1.val + 8000 * p.2.val + 8000 := by
  rw [Rect.mem_set_unit]
  have h1 : (y 1).val < 128 := (y 1).isLt
  constructor
  · intro H; exact H 0
  · intro H i; fin_cases i
    · exact H
    · exact ⟨Nat.zero_le _, by show (y 1).val < 0 + 128; omega⟩

theorem xSet_disjoint : ∀ p p', p ≠ p' → Disjoint (xSet p) (xSet p') := chunks_disjoint xSet (fun y => (y 0).val) mem_xSet
theorem xSet_cover : Finset.univ.biUnion xSet = Finset.univ := chunks_cover xSet (fun y => (y 0).val) mem_xSet fun y => (y 0).isLt
theorem oSet_disjoint : ∀ p p', p ≠ p' → Disjoint (oSet p) (oSet p') := chunks_disjoint oSet (fun y => (y 0).val) mem_oSet
theorem oSet_cover : Finset.univ.biUnion oSet = Finset.univ := chunks_cover oSet (fun y => (y 0).val) mem_oSet fun y => (y 0).isLt
theorem inSet_disjoint : ∀ j j', j ≠ j' → Disjoint (inSet j) (inSet j') :=
  Ring.lead_disjoint (s := S4x8000x16) 0 1 slotOff S1x8000x16.size inOff_inb (fun j => (Nat.one_mul _).symm) rfl
theorem outSet_disjoint : ∀ j j', j ≠ j' → Disjoint (outSet j) (outSet j') :=
  Ring.lead_disjoint (s := S4x8000x128) 0 1 slotOff S1x8000x128.size outOff_inb (fun j => (Nat.one_mul _).symm) rfl

/-- A slot starts at the first row and column of its slab. -/
theorem slotOff_rest (j : Fin 4) : ∀ a : Fin 3, a ≠ 0 → slotOff j a = 0
  | 0, h => absurd rfl h
  | 1, _ => rfl
  | 2, _ => rfl

theorem inSet_cover : Finset.univ.biUnion inSet = Finset.univ :=
  Ring.lead_cover (s := S4x8000x16) 0 1 slotOff S1x8000x16.size inOff_inb (fun j => (Nat.one_mul _).symm) slotOff_rest rfl
    (by decide) rfl
theorem outSet_cover : Finset.univ.biUnion outSet = Finset.univ :=
  Ring.lead_cover (s := S4x8000x128) 0 1 slotOff S1x8000x128.size outOff_inb (fun j => (Nat.one_mul _).symm) slotOff_rest rfl
    (by decide) rfl

/-! ## Arrays and slot buffers -/

variable (c : Dev nD)

omit [FloatOps F] in
/-- The four members of a family, one by one. -/
theorem bigSep_four (Φ : Fin 4 → sProp 𝕄) : bigSep Finset.univ Φ = four Φ :=
  bigSep_univ_eq_bigSepL [(0 : Fin 4), 1, 2, 3] (by decide) (by decide) Φ

omit [FloatOps F] in
/-- A family over chunks is a family over groups of four chunks each. -/
theorem bigSep_chunks (Φ : Fin 50 × Fin 4 → sProp 𝕄) :
    bigSep Finset.univ Φ = bigSep Finset.univ fun g => four fun j => Φ (g, j) := by
  rw [bigSep_univ_prod]
  exact bigSep_congr fun g _ => bigSep_four fun j => Φ (g, j)

theorem xP_eq (X : XBuf F c) (g : Fin 50) (j : Fin 4) :
    (xP c X g j : sProp 𝕄) = (((c : Thread nD τ).loc main_arg0) ↦[xSet (g, j)]{fullShare} X) :=
  congrArg (fun S => (_ ↦[S]{fullShare} X : sProp 𝕄)) (View.set_slice_whole _ _)
theorem oP_eq (O : OBuf F c) (g : Fin 50) (j : Fin 4) :
    (oP c O g j : sProp 𝕄) = (((c : Thread nD τ).loc main_v3) ↦[oSet (g, j)]{fullShare} O) :=
  congrArg (fun S => (_ ↦[S]{fullShare} O : sProp 𝕄)) (View.set_slice_whole _ _)
theorem islotP_eq (j : Fin 4) (f) :
    (islotP c j f : sProp 𝕄) = (((c : Thread nD τ).loc cc0_scratch0) ↦[inSet j]{fullShare} f) :=
  congrArg (fun S => (_ ↦[S]{fullShare} f : sProp 𝕄)) ((View.set_reshape _ _).trans (View.set_slice_whole _ _))
theorem oslotP_eq (j : Fin 4) (f) :
    (oslotP c j f : sProp 𝕄) = (((c : Thread nD τ).loc cc0_scratch1) ↦[outSet j]{fullShare} f) :=
  congrArg (fun S => (_ ↦[S]{fullShare} f : sProp 𝕄)) ((View.set_reshape _ _).trans (View.set_slice_whole _ _))

/-- `x` whole is its chunks. -/
theorem x_chunks (X : XBuf F c) :
    (((c : Thread nD τ).loc main_arg0) ↦{fullShare} X : sProp 𝕄) = bigSep Finset.univ (xG c X) := by
  rw [Ring.pointsTo_blocks (ℓ := (c : Thread nD τ).loc main_arg0) xSet xSet_disjoint xSet_cover, bigSep_chunks]
  exact bigSep_congr fun g _ => by simp only [xG, xP_eq]
/-- The result whole is its chunks. -/
theorem o_chunks (O : OBuf F c) :
    (((c : Thread nD τ).loc main_v3) ↦{fullShare} O : sProp 𝕄) = bigSep Finset.univ (oG c O) := by
  rw [Ring.pointsTo_blocks (ℓ := (c : Thread nD τ).loc main_v3) oSet oSet_disjoint oSet_cover, bigSep_chunks]
  exact bigSep_congr fun g _ => by simp only [oG, oP_eq]

/-- The input slots' buffer whole is its four slots; -/
theorem in_split :
    iprop(∃ f : Buf (Elt F) ((c : Thread nD τ).loc cc0_scratch0), ((c : Thread nD τ).loc cc0_scratch0) ↦{fullShare} f)
      ⊢ (four fun j => iprop(∃ f, islotP c j f) : sProp 𝕄) := by
  iintro ⟨%f, H⟩
  ihave H4 := (entails_of_eq ((Ring.pointsTo_blocks (Ix := Unit) (Name := ℕ) (U := UU nD τ) (Lvl := ℕ) (q := fullShare)
    (ℓ := (c : Thread nD τ).loc cc0_scratch0) inSet inSet_disjoint inSet_cover f).trans (bigSep_four _))) $$ H
  icases H4 with ⟨H0, H1, H2, H3⟩
  isplitl [H0]; · iexists f; iapply (entails_of_eq (islotP_eq c 0 f).symm); iexact H0
  isplitl [H1]; · iexists f; iapply (entails_of_eq (islotP_eq c 1 f).symm); iexact H1
  isplitl [H2]; · iexists f; iapply (entails_of_eq (islotP_eq c 2 f).symm); iexact H2
  iexists f; iapply (entails_of_eq (islotP_eq c 3 f).symm); iexact H3
/-- and back. -/
theorem in_join (f₀ : Buf (Elt F) ((c : Thread nD τ).loc cc0_scratch0)) :
    (four fun j => iprop(∃ f, islotP c j f) : sProp 𝕄)
      ⊢ iprop(∃ f : Buf (Elt F) ((c : Thread nD τ).loc cc0_scratch0), ((c : Thread nD τ).loc cc0_scratch0) ↦{fullShare} f) := by
  refine (entails_of_eq ?_).trans (Ring.pointsTo_blocks_join_exists (ℓ := (c : Thread nD τ).loc cc0_scratch0) inSet inSet_disjoint inSet_cover f₀)
  rw [bigSep_four]
  simp only [four, islotP_eq]
  rfl
/-- The output slots' buffer whole is its four slots; -/
theorem out_split :
    iprop(∃ f : Buf (Elt F) ((c : Thread nD τ).loc cc0_scratch1), ((c : Thread nD τ).loc cc0_scratch1) ↦{fullShare} f)
      ⊢ (four fun j => iprop(∃ f, oslotP c j f) : sProp 𝕄) := by
  iintro ⟨%f, H⟩
  ihave H4 := (entails_of_eq ((Ring.pointsTo_blocks (Ix := Unit) (Name := ℕ) (U := UU nD τ) (Lvl := ℕ) (q := fullShare)
    (ℓ := (c : Thread nD τ).loc cc0_scratch1) outSet outSet_disjoint outSet_cover f).trans (bigSep_four _))) $$ H
  icases H4 with ⟨H0, H1, H2, H3⟩
  isplitl [H0]; · iexists f; iapply (entails_of_eq (oslotP_eq c 0 f).symm); iexact H0
  isplitl [H1]; · iexists f; iapply (entails_of_eq (oslotP_eq c 1 f).symm); iexact H1
  isplitl [H2]; · iexists f; iapply (entails_of_eq (oslotP_eq c 2 f).symm); iexact H2
  iexists f; iapply (entails_of_eq (oslotP_eq c 3 f).symm); iexact H3
/-- and back. -/
theorem out_join (f₀ : Buf (Elt F) ((c : Thread nD τ).loc cc0_scratch1)) :
    (four fun j => iprop(∃ f, oslotP c j f) : sProp 𝕄)
      ⊢ iprop(∃ f : Buf (Elt F) ((c : Thread nD τ).loc cc0_scratch1), ((c : Thread nD τ).loc cc0_scratch1) ↦{fullShare} f) := by
  refine (entails_of_eq ?_).trans (Ring.pointsTo_blocks_join_exists (ℓ := (c : Thread nD τ).loc cc0_scratch1) outSet outSet_disjoint outSet_cover f₀)
  rw [bigSep_four]
  simp only [four, oslotP_eq]
  rfl

omit [FloatOps F] in
/-- Two families of four side by side are one family of pairs; -/
theorem four_zip (P Q : Fin 4 → sProp 𝕄) : iprop(four P ∗ four Q) ⊢ four fun j => iprop(P j ∗ Q j) := by
  iintro ⟨⟨P0, P1, P2, P3⟩, ⟨Q0, Q1, Q2, Q3⟩⟩
  isplitl [P0 Q0]; · isplitl [P0] <;> iassumption
  isplitl [P1 Q1]; · isplitl [P1] <;> iassumption
  isplitl [P2 Q2]; · isplitl [P2] <;> iassumption
  isplitl [P3] <;> iassumption
omit [FloatOps F] in
/-- and back. -/
theorem four_unzip (P Q : Fin 4 → sProp 𝕄) : (four fun j => iprop(P j ∗ Q j)) ⊢ iprop(four P ∗ four Q) := by
  iintro ⟨⟨P0, Q0⟩, ⟨P1, Q1⟩, ⟨P2, Q2⟩, ⟨P3, Q3⟩⟩
  isplitl [P0 P1 P2 P3]
  · isplitl [P0]; · iexact P0
    isplitl [P1]; · iexact P1
    isplitl [P2] <;> iassumption
  · isplitl [Q0]; · iexact Q0
    isplitl [Q1]; · iexact Q1
    isplitl [Q2] <;> iassumption

/-! ## The kernel's own semaphores -/

/-- The kernel's own semaphores: the four input slots', then the four output slots'. -/
abbrev ownSem (p : Fin 2 × Fin 4) : SemLoc sig := if p.1 = 0 then .dma (isem p.2).sem else .dma (osem p.2).sem
theorem ownSem_facts : Pipeline.OwnSemFacts spec0 ownSem := by decide

omit [FloatOps F] in
/-- They are at zero together when each slot's is. -/
theorem ownSems_eq : (Pipeline.ownSems0 (Ix := Unit) (Name := ℕ) (U := UU nD τ) (Lvl := ℕ) (Val := Elt F) (τ := τ) ownSem c : sProp 𝕄)
    = iprop(four (icell c) ∗ four (ocell c)) := by
  unfold Pipeline.ownSems0
  rw [bigSep_univ_prod, bigSep_univ_eq_bigSepL [(0 : Fin 2), 1] (by decide) (by decide)]
  show iprop(bigSep Finset.univ (icell c) ∗ bigSep Finset.univ (ocell c)) = _
  rw [bigSep_four, bigSep_four]

/-- The slot buffers and the semaphores at rest are the slots idle; -/
theorem idle_of_rest :
    iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ Pipeline.ownSems0 ownSem c)
    ⊢ (iprop(inIdle c ∗ outIdle c) : sProp 𝕄) := by
  rw [ownSems_eq]
  iintro ⟨Hi, Ho, Hci, Hco⟩
  isplitl [Hi Hci]
  · iapply (four_zip (fun j => iprop(∃ f, islotP c j f)) (icell c))
    isplitl [Hi]; · iapply (in_split c); iexact Hi
    iexact Hci
  · iapply (four_zip (fun j => iprop(∃ f, oslotP c j f)) (ocell c))
    isplitl [Ho]; · iapply (out_split c); iexact Ho
    iexact Hco
/-- and back. -/
theorem rest_of_idle :
    (iprop(inIdle c ∗ outIdle c) : sProp 𝕄)
    ⊢ iprop(Pipeline.ownSems0 ownSem c
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) := by
  rw [ownSems_eq]
  iintro ⟨Hi, Ho⟩
  ihave Hi' := (four_unzip (fun j => iprop(∃ f, islotP c j f)) (icell c)) $$ Hi
  ihave Ho' := (four_unzip (fun j => iprop(∃ f, oslotP c j f)) (ocell c)) $$ Ho
  icases Hi' with ⟨Hi, Hci⟩
  icases Ho' with ⟨Ho, Hco⟩
  isplitl [Hci Hco]
  · isplitl [Hci]; · iexact Hci
    iexact Hco
  isplitl [Hi]; · iapply (in_join c (islot 0).view.junk); iexact Hi
  iapply (out_join c (oslot 0).view.junk); iexact Ho

end Cert.Proof.Ring4

end
-- ==== Proof.Launch.lean ====
/-
  The launch.

  The host part transposes and rounds the weights and reshapes the bias; the kernel's pipeline stages both whole, and
  the body runs once, on `x` and the result left in place. From any memory the program ends, with the arguments as they
  were, every semaphore at zero, and the result array at `outV`.
-/
module

public import proofs.«01_k».proof.Proof.Blocks
public import proofs.«01_k».proof.Proof.Gen.Kernel.Frame

@[expose] public section

noncomputable section

namespace Cert.Proof.Ring4

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- The pipeline's share of the ghost state. -/
abbrev EP : Emb (UR sig nD τ) (MT nD τ sig Unit (Elt F) ℕ (UU nD τ) ℕ) := embL

variable (m : (ℓ : Loc nD τ sig) → Buf (Elt F) ℓ) (ρ : Dev nD → PrngReg)

/-- The memory the program starts from, every semaphore at zero. -/
abbrev start : MemSt nD τ sig (Elt F) := ⟨m, fun _ => 0, ρ⟩

/-- The weights' staging buffer. -/
abbrev stW (t : Fin cfg0.N) : Memref sig .tc .vmem S16x128 .bf16 := win0_0.stage (cfg0.slots t 0)
/-- The bias's staging buffer. -/
abbrev stB (t : Fin cfg0.N) : Memref sig .tc .vmem S1x128 .f32 := win0_1.stage (cfg0.slots t 1)
/-- The staging buffers are whole. -/
abbrev hstW (t : Fin cfg0.N) : (stW t).IsWhole := hstage0_0 0
abbrev hstB (t : Fin cfg0.N) : (stB t).IsWhole := hstage0_1 0

/-- What the weights' staging buffer holds when the body runs. -/
abbrev heldW (c : Dev nD) (t : Fin cfg0.N) : Buf (Elt F) ((stW t).view.loc (c : Thread nD τ)) := (stW t).view.rep (iblk m c 0 t)
/-- What the bias's staging buffer holds when the body runs. -/
abbrev heldB (c : Dev nD) (t : Fin cfg0.N) : Buf (Elt F) ((stB t).view.loc (c : Thread nD τ)) := (stB t).view.rep (iblk m c 1 t)

/-- `x` when the body runs. -/
abbrev inV (c : Dev nD) : XBuf F c := V m c main_arg0
/-- The result array when the body is done. -/
abbrev outV (c : Dev nD) : OBuf F c := resOf c (inV m c) (stW t0_0) (stB t0_0) (heldW m c t0_0) (heldB m c t0_0)

/-- What the body works on before (`n = 0`) and after it runs. -/
def phase (c : Dev nD) (n : ℕ) : sProp 𝕄 := if n = 0 then held c (inV m c) (V m c main_v3) else held c (inV m c) (outV m c)
theorem phase_before (c : Dev nD) : phase m c 0 = held c (inV m c) (V m c main_v3) := if_pos rfl
theorem phase_after (c : Dev nD) : phase m c 1 = held c (inV m c) (outV m c) := if_neg Nat.one_ne_zero

/-- The pipeline's proof data: both staged arrays stay as they are; the body takes the result array from what it held
    to `outV`. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := phase m c t.val
  q _ := fullShare
  owed _ := 0

theorem dats_start (c : Dev nD) : (dats m 0 c).Φ 0 = held c (inV m c) (V m c main_v3) :=
  (show (dats m 0 c).Φ 0 = phase m c 0 from rfl).trans (phase_before m c)
theorem dats_end (c : Dev nD) : (dats m 0 c).Φ (Fin.last cfg0.N) = held c (inV m c) (outV m c) :=
  (show (dats m 0 c).Φ (Fin.last cfg0.N) = phase m c grid0.N from rfl).trans (by rw [N_0]; exact phase_after m c)

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-- The pipeline calls the body on its staging buffers. -/
theorem defs_tc : (defs₀ (F := F)) .tc cfg0.body
    = fun a => body (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = body (stW t) (hstW t) (stB t) (hstB t) :=
  (congrFun defs_tc _).trans rfl

set_option backward.isDefEq.respectTransparency.types false in
/-- The body meets the pipeline's proof data. -/
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, after_w0, after_w1]
  rw [show (dats m 0 c).Φ (Fin.castSucc t0_0) = held c (inV m c) (V m c main_v3) from dats_start m c,
    show (dats m 0 c).Φ (Fin.succ t0_0) = held c (inV m c) (outV m c) from phase_after m c]
  unfold Dat.owesAt Pipeline.owesWithin
  rw [show (dats m 0 c).owed (Fin.castSucc t0_0) = 0 from rfl, show (dats m 0 c).owed (Fin.succ t0_0) = 0 from rfl]
  unfold owns
  iintro ⟨Hheld, ⟨%W, -, HW⟩, ⟨%d0, %gw, %hgw, Hw⟩, ⟨%d1, %gb, %hgb, Hb⟩⟩
  ihave Hw' := (pointsTo_rep_entails (c : Thread nD τ) (stW t0_0) gw fullShare) $$ Hw
  ihave Hb' := (pointsTo_rep_entails (c : Thread nD τ) (stB t0_0) gb fullShare) $$ Hb
  rw [hgw, hgb]
  sl_rw [prog_eq t0_0]
  iapply (bodyRun c (inV m c) (V m c main_v3) (stW t0_0) (hstW t0_0) (stB t0_0) (hstB t0_0) (heldW m c t0_0) (heldB m c t0_0) W)
  isplitl [Hw' Hb']
  · isplitl [Hw']; · iexact Hw'
    iexact Hb'
  isplitl [Hheld]; · iexact Hheld
  isplitl [HW]; · iexact HW
  iintro ⟨⟨Hw, Hb⟩, Hheld, ⟨%W', HW⟩⟩
  isplitl [Hheld]; · iexact Hheld
  isplitl [HW]
  · iexists W'; isplitr; · ipureintro; exact fun _ _ => Or.inl trivial
    iexact HW
  isplitl [Hw]
  · iexists _; isplitr; · ipureintro; exact View.read_rep _ _
    iexact Hw
  iexists _; isplitr; · ipureintro; exact View.read_rep _ _
  iexact Hb

/-! ## The run -/

/-- The arrays the body works on, and the kernel's semaphores, as the kernel is entered. -/
def entering (c : Dev nD) : sProp 𝕄 :=
  iprop((((c : Thread nD τ).loc main_arg0) ↦{fullShare} V m c main_arg0) ∗ (((c : Thread nD τ).loc main_v3) ↦{fullShare} V m c main_v3)
    ∗ Pipeline.ownSems0 ownSem c)
/-- The arrays the body works on, as the kernel is left. -/
def leaving (c : Dev nD) : sProp 𝕄 :=
  iprop((((c : Thread nD τ).loc main_arg0) ↦{fullShare} V m c main_arg0) ∗ (((c : Thread nD τ).loc main_v3) ↦{fullShare} outV m c))
/-- The arguments only the host part reads. -/
def bypassing (c : Dev nD) : sProp 𝕄 :=
  iprop((((c : Thread nD τ).loc main_arg1) ↦{fullShare} V m c main_arg1) ∗ (((c : Thread nD τ).loc main_arg2) ↦{fullShare} V m c main_arg2))
/-- The ghost state at the start. -/
def u₀ : UU nD τ := (initOf (Pipeline.cells cfgs Cert.Kernel.Gen.cellOf_inj) (Pipeline.launchToks cfgs Cert.Kernel.Gen.cellOf_inj), 1)

/-- A memory with the arguments as launched and the result array at `outV`. -/
def Done (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_v3) = outV m c

set_option backward.isDefEq.respectTransparency.types false in
/-- From any memory with every semaphore at zero, every weakly fair execution of the program ends without a fault, with
    the arguments as launched, the result array at `outV`, and every semaphore at zero. -/
theorem run_main : θ_run defs (onTc (τ := τ) (main (F := F))) (start m ρ) (fun r => (∀ c, Done m c r.2) ∧ r.2.sem = fun _ => 0) :=
  Pipeline.θ_run_region_kit_quiescent cfgs (dats m) () (0 : Fin 1) launch0 ownSem_facts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := entering m) (Y := leaving m) (Z := bypassing m)
    (hX := fun c => by
      rw [unscopedRest0_eq]
      unfold entering bypassing
      iintro ⟨⟨H0, H1, H2, -, H3⟩, HS, -, -, -⟩; imodintro
      isplitl [H0 H3 HS]
      · isplitl [H0]; · iexact H0
        isplitl [H3]; · iexact H3
        iexact HS
      isplitl [H1]; · iexact H1
      iexact H2)
    (hin := fun c => by
      rw [scopedRest0_eq, dats_start]
      unfold entering
      rw [x_chunks c (V m c main_arg0), o_chunks c (V m c main_v3)]
      iintro ⟨⟨Hx, Ho, HS⟩, Hi, Hs⟩
      isplitl [Hx]; · iexact Hx
      isplitl [Ho]; · iexact Ho
      iapply (idle_of_rest c)
      isplitl [Hi]; · iexact Hi
      isplitl [Hs]; · iexact Hs
      iexact HS)
    (hout := fun c => by
      rw [scopedRest0_eq, dats_end]
      unfold leaving
      rw [x_chunks c (V m c main_arg0), o_chunks c (outV m c)]
      iintro ⟨Hx, Ho, HI⟩
      isplitl [Hx Ho]
      · isplitl [Hx]; · iexact Hx
        iexact Ho
      iapply (rest_of_idle c); iexact HI)
    (QY := Done m)
    (hY := fun c s' => by
      unfold leaving bypassing
      iintro ⟨⟨H0, H3⟩, ⟨H1, H2⟩, HSI⟩
      icombine HSI H0 gives %h0
      icombine HSI H3 gives %h3
      icombine HSI H1 gives %h1
      icombine HSI H2 gives %h2
      imodintro
      isplitr
      · ipureintro
        exact ⟨(Buf.eq_of_forall_mem_univ h0).trans (V_main_arg0 m c), (Buf.eq_of_forall_mem_univ h1).trans (V_main_arg1 m c),
          (Buf.eq_of_forall_mem_univ h2).trans (V_main_arg2 m c), Buf.eq_of_forall_mem_univ h3⟩
      iexact HSI)
    (hQ := fun _ hh hz => ⟨fun c => (hh c).2, hz⟩)

end Cert.Proof.Ring4

end
-- ==== Proof.Ideal.lean ====
/-
  The kernel as printed for the ideal instance.

  No operation was replaced: its text is the kernel's, so that its table of functions and its program are the kernel's
  own, and the kernel's run, which holds at any instance, is its run too.
-/
module

public import proofs.«01_k».proof.Proof.Launch
public import proofs.«01_k».proof.Proof.Gen.KernelIdeal

@[expose] public section

noncomputable section

namespace Cert.Proof.Twin

open Cert.KernelIdeal
open Idealize.ShloMosaic
open Idealize.SL.Sem
open Cert.Proof.Ring4 (Done start run_main)

variable {F : FTy → Type} [FloatOps F]

/-- The two tables of functions are one: label by label, the same body on the same buffers. -/
theorem table₀_eq : defs₀ (F := F) = Cert.Kernel.defs₀ (F := F) :=
  congrArg Defs.onTc (funext fun
    | 0 => funext fun _ => rfl
    | ⟨_ + 1, h⟩ => absurd h (Nat.not_lt.2 (Nat.le_add_left _ _)))

/-- So are the tables with the pipeline's labels. -/
theorem table_eq : defs (F := F) = Cert.Kernel.defs (F := F) :=
  congrArg (Pipeline.defs Cert.Kernel.pcfgs) table₀_eq

/-- And so are the two programs. -/
theorem prog_eq : main (F := F) = Cert.Kernel.main (F := F) := rfl

/-- The run of the kernel as printed for the ideal instance is the kernel's. -/
theorem run (m : (ℓ : Loc nD τ sig) → Buf (Elt F) ℓ) (ρ : Dev nD → PrngReg) :
    θ_run defs (onTc (τ := τ) (main (F := F))) ⟨m, fun _ => 0, ρ⟩ (fun r => (∀ c, Done m c r.2) ∧ r.2.sem = fun _ => 0) :=
  (congrArg (fun d => θ_run d (onTc (τ := τ) (main (F := F))) ⟨m, fun _ => 0, ρ⟩ (fun r => (∀ c, Done m c r.2) ∧ r.2.sem = fun _ => 0)) table_eq).mpr
    (run_main m ρ)

end Cert.Proof.Twin

end
-- ==== Proof.Value.lean ====
/-
  The kernel's result over the extended reals.

  There the roundings are the identity and a product is the sum of its terms, so that the result at row `r` and lane `l`
  is `∑ k, x r k * W l k`, plus `b l`.
-/
module

public import proofs.«01_k».proof.Proof.Launch
public import Idealize.ShloMosaic.Lib.MatmulPlain
public import Idealize.ShloMosaic.Lib.StableHlo.Run
public import Idealize.ShloMosaic.Lib.Pipeline.Value

@[expose] public section

noncomputable section

namespace Cert.Proof.Ring4

open Cert.Kernel Cert.Kernel.Gen
open Idealize.ShloMosaic
open Idealize.ShloMosaic.TcCoe
open Idealize.ShloMosaic.ValueIdx

/-! ## One chunk's product -/

/-- The chunk's dot is the plain product's. -/
theorem dot_plain : dot_S8000x16_S16x128_S8000x128_1_0_0_1_n_n = DotDims.plain 8000 16 128 := rfl

/-- A chunk's product at a row and a lane: the row against the lane's weights, plus the lane's bias. -/
theorem pay_apply (x : Vec Ideal S1x8000x16 .f32) (wt : Vec Ideal S16x128 .bf16) (bs : Vec Ideal S1x128 .f32) (r : Fin 8000) (l : Fin 128) :
    k0_pay1 x wt bs (ix3 (n0 := 1) 0 r l) = ((∑ k : Fin 16, x (ix3 (n0 := 1) 0 r k) * wt (ix2 k l)) + bs (ix2 (n0 := 1) 0 l) : EReal) := by
  unfold k0_pay1
  rw [shapeCast_ab_1ab_apply, shapeCast_self, shapeCast_self, dot_plain]
  refine congrArg₂ (fun a b : EReal => a + b) ?_ (broadcastTo_apply _ _ _ _ fun a => ?_)
  · refine (Ideal.matmul_plain_apply none _ wt _ r l).trans ?_
    refine (congrArg (· + _) Ideal.ofBits_zero_f32).trans ((zero_add _).trans (Finset.sum_congr rfl fun k _ => ?_))
    exact congrArg (· * wt (ix2 k l)) (shapeCast_1ab_ab_apply x _ r k)
  · match a with
    | ⟨0, _⟩ => rfl
    | ⟨1, _⟩ => rfl

variable {F : FTy → Type} [FloatOps F]

omit [FloatOps F] in
/-- A row of `x` as its chunk holds it. -/
theorem xblk_row (c : Dev nD) (X : XBuf F c) (r : Fin 1600000) (k : Fin 16) :
    xblk c X (rowGroup r) (rowChunk r) (ix3 (n0 := 1) 0 (rowPlace r) k) = X (ix2 (n0 := 1600000) (n1 := 16) r k) := by
  refine (View.read_apply _ _).trans ((cast_eq _ _).trans (congrArg X (funext fun a => Fin.ext ?_)))
  match a with
  | ⟨0, _⟩ =>
    show 32000 * (r.val / 32000) + 8000 * (r.val % 32000 / 8000) + 1 * (r.val % 8000) = r.val
    omega
  | ⟨1, _⟩ => show 0 + 1 * k.val = k.val; omega

/-! ## What the host part leaves -/

variable (m : (ℓ : Loc nD τ sig) → Buf (Elt F) ℓ)

/-- The weights the kernel is called with: the argument's, transposed and rounded. -/
theorem V_weights (c : Dev nD) :
    V m c main_v1 = truncf .bf16 (transpose S16x128 [1, 0] (m ((c : Thread nD τ).loc main_arg1)) transposes_S128x16_S16x128_1_0) bitsLt_bf16_f32 := by
  unfold V
  after_results

/-- The bias the kernel is called with: the argument's, as one row. -/
theorem V_bias (c : Dev nD) :
    V m c main_v2 = shapeCast S1x128 (m ((c : Thread nD τ).loc main_arg2)) shapeCasts_S128_S1x128 := by
  unfold V
  after_results
  rfl

/-- The body loads the weights as the host part left them. -/
theorem loadedW (c : Dev nD) (k : Fin 16) (l : Fin 128) :
    wtOf c (stW t0_0) (heldW m c t0_0) (ix2 k l) = V m c main_v1 (ix2 k l) := by
  refine (congrFun (View.readAt_rep _ _ _) _).trans ?_
  unfold iblk
  refine (View.read_apply _ _).trans ((cast_eq _ _).trans (congrArg (V m c main_v1) (funext fun a => Fin.ext ?_)))
  match a with
  | ⟨0, _⟩ => show 0 * 16 + 1 * (0 + 1 * k.val) = k.val; omega
  | ⟨1, _⟩ => show 0 * 128 + 1 * (0 + 1 * l.val) = l.val; omega

/-- The body loads the bias as the host part left it. -/
theorem loadedB (c : Dev nD) (l : Fin 128) :
    bsOf c (stB t0_0) (heldB m c t0_0) (ix2 (n0 := 1) 0 l) = V m c main_v2 (ix2 (n0 := 1) 0 l) := by
  refine (congrFun (View.readAt_rep _ _ _) _).trans ?_
  unfold iblk
  refine (View.read_apply _ _).trans ((cast_eq _ _).trans (congrArg (V m c main_v2) (funext fun a => Fin.ext ?_)))
  match a with
  | ⟨0, _⟩ => rfl
  | ⟨1, _⟩ => show 0 * 128 + 1 * (0 + 1 * l.val) = l.val; omega

/-! ## The result -/

/-- Row `r` of `x` against row `l` of the weights, plus the bias at `l`: what both programs compute. -/
def linear (x : Vec Ideal S1600000x16 .f32) (w : Vec Ideal S128x16 .f32) (b : Vec Ideal S128 .f32) (r : Fin 1600000) (l : Fin 128) : EReal :=
  (∑ k : Fin 16, (x (ix2 r k) * w (ix2 l k) : EReal)) + b (ix1 l)

/-- The kernel's result at a row and a lane. -/
theorem outV_apply (m : (ℓ : Loc nD τ sig) → Buf (Elt Ideal) ℓ) (c : Dev nD) (r : Fin 1600000) (l : Fin 128) :
    outV m c (ix2 (n0 := 1600000) (n1 := 128) r l)
      = linear (m ((c : Thread nD τ).loc main_arg0)) (m ((c : Thread nD τ).loc main_arg1)) (m ((c : Thread nD τ).loc main_arg2)) r l := by
  refine (pay_apply _ _ _ (rowPlace r) l).trans (congrArg₂ (fun a b : EReal => a + b) (Finset.sum_congr rfl fun k _ => ?_) ?_)
  · refine congrArg₂ (fun a b : EReal => a * b) ((xblk_row c (inV m c) r k).trans (congrFun (V_main_arg0 m c) _)) ?_
    refine (loadedW m c k l).trans ((congrFun (V_weights m c) _).trans ?_)
    exact transpose_ix2_apply _ _ k l
  · refine (loadedB m c l).trans ((congrFun (V_bias m c) _).trans ?_)
    exact shapeCast_a_1a_apply _ _ 0 l

end Cert.Proof.Ring4

end
-- ==== Proof.Reference.lean ====
/-
  The reference over the extended reals: its run leaves, at every row and lane, what the kernel leaves there.
-/
module

public import proofs.«01_k».proof.Proof.Value
public import proofs.«01_k».proof.Proof.Gen.ReferenceIdeal.Read
public import Idealize.ShloMosaic.Lib.Quiescent

@[expose] public section

noncomputable section

namespace Cert.Proof.Ref

open Cert.ReferenceIdeal Cert.ReferenceIdeal.Gen Cert.ReferenceIdeal.Read
open Idealize.ShloMosaic
open Idealize.ShloMosaic.TcCoe
open Idealize.ShloMosaic.ValueIdx
open Idealize.SL.Sem
open Cert.Proof.Ring4 (linear)

/-- The reference's term at a row and a lane. -/
theorem term_apply (x : Vec Ideal S1600000x16 .f32) (w : Vec Ideal S128x16 .f32) (b : Vec Ideal S128 .f32) (r : Fin 1600000) (l : Fin 128) :
    val_main_v4 (F := Ideal) x w b (ix2 r l) = linear x w b r l := by
  rw [val_main_v4_apply, val_main_v1_apply, val_main_v3_apply, val_main_v2_apply]
  refine congrArg₂ (fun a b : EReal => a + b) (Finset.sum_congr rfl fun k _ => ?_) ?_
  · rw [val_main_v0_apply]
    refine congrArg₂ (fun a b : EReal => a * b) (congrArg x (funext fun a => ?_)) (congrArg w (funext fun a => ?_))
    · match a with
      | ⟨0, _⟩ => rfl
      | ⟨1, _⟩ => rfl
    · match a with
      | ⟨0, _⟩ => rfl
      | ⟨1, _⟩ => rfl
  · refine congrArg b (funext fun a => ?_)
    match a with
    | ⟨0, _⟩ => rfl

/-- The reference's run: the result at its term, the arguments as launched, and no semaphore to leave above zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_v4)
          = val_main_v4 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨h, sem_eq_zero_of_no_sems rfl r.2⟩) (Value.run m ρ)

end Cert.Proof.Ref

end
-- ==== Proof.lean ====
/-
  The certificate: the kernel's run, the same run at the ideal instance, the reference's run, and the equation between
  the two results.
-/
module

public import proofs.«01_k».proof.Defs
public import proofs.«01_k».proof.Proof.Ideal
public import proofs.«01_k».proof.Proof.Reference
public import proofs.«01_k».proof.Proof.Gen.Kernel.Frame
public import proofs.«01_k».proof.Proof.Gen.KernelIdeal
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.ShloMosaic.ValueIdx Idealize.SL.Sem
open Cert.Proof.Ring4 (outV outV_apply linear)

/-- The kernel's word program terminates without a fault, its arguments unchanged and its semaphores at zero. -/
theorem frame_kernel : quiescent_Kernel (hKernel := Cert.Kernel.Gen.facts) := fun m g _ =>
  (θ_run _ _ _).mono (fun _ h => ⟨fun c => ⟨(h.1 c).1, (h.1 c).2.1, (h.1 c).2.2.1⟩, h.2⟩) (Ring4.run_main m g)

/-- So does the kernel at the ideal instance. -/
theorem frame_ideal : quiescent_KernelIdeal (hKernelIdeal := Cert.KernelIdeal.Gen.facts) := fun m g _ =>
  (θ_run _ _ _).mono (fun _ h => ⟨fun c => ⟨(h.1 c).1, (h.1 c).2.1, (h.1 c).2.2.1⟩, h.2⟩) (Twin.run m g)

/-- So does the reference. -/
theorem frame_reference : quiescent_ReferenceIdeal (hReferenceIdeal := Cert.ReferenceIdeal.Gen.facts) := fun m g _ =>
  (θ_run _ _ _).mono (fun _ h => ⟨fun c => (h.1 c).2, h.2⟩) (Ref.run m g)

/-- From equal arguments, the reference's term is the kernel's result, at every row and lane. -/
theorem results_eq (m : (ℓ : Loc Cert.Kernel.nD Cert.Kernel.τ Cert.Kernel.sig) → Buf (Elt Ideal) ℓ) (c : Dev Cert.Kernel.nD) :
    Cert.ReferenceIdeal.Read.val_main_v4 (F := Ideal) (m ((c : Thread Cert.Kernel.nD Cert.Kernel.τ).loc Cert.Kernel.main_arg0))
        (m ((c : Thread Cert.Kernel.nD Cert.Kernel.τ).loc Cert.Kernel.main_arg1)) (m ((c : Thread Cert.Kernel.nD Cert.Kernel.τ).loc Cert.Kernel.main_arg2))
      = outV m c := by
  funext i
  rw [eq_ix2 i]
  exact (Ref.term_apply _ _ _ (i 0) (i 1)).trans (outV_apply m c (i 0) (i 1)).symm

/-- From equal arguments, the kernel and the reference end with equal results, over the extended reals. -/
theorem value : algebraic_KernelIdeal_ReferenceIdeal (hKernelIdeal := Cert.KernelIdeal.Gen.facts) (hReferenceIdeal := Cert.ReferenceIdeal.Gen.facts) :=
  fun m g m' g' _ hag =>
    ⟨outV m,
      (θ_run _ _ _).mono (fun _ h c => ⟨(h.1 c).2.2.2, (h.1 c).1, (h.1 c).2.1, (h.1 c).2.2.1⟩) (Twin.run m g),
      (θ_run _ _ _).mono (fun _ h c => ⟨(h.1 c).1.trans (by
          rw [(hag c).1, (hag c).2.1, (hag c).2.2]; exact results_eq m c), (h.1 c).2⟩) (Ref.run m' g')⟩

/-- Everything the certificate claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
